-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![768, 512]⟩ ⟨2, ![768, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)
  bcast_S_S512 : S_.BroadcastsInDim S512 (![] : Fin 0 → Fin S512.rank)

variable [Facts]

def fn {F : FTy → Type} [FloatOps F] (main_arg0 : FVec F S768x512 .bf16) (main_arg1 : FVec F S512 .bf16) (main_arg2 : FVec F S512 .bf16) : IVec S768x512 1 × IVec S512 1 :=
  let main_v0 : FVec F S768x512 .bf16 := Host.absf main_arg0
  let main_cst : FVec F S_ .bf16 := constant S_ .bf16 0x7F80#16
  let main_v1 : FVec F S768x512 .bf16 := broadcastInDim S768x512 ![] bcast_S_S768x512 main_cst
  let main_v2 : IVec S768x512 1 := cmpf .olt main_v0 main_v1
  let main_v3 : FVec F S512 .bf16 := Host.absf main_arg1
  let main_cst_0 : FVec F S_ .bf16 := constant S_ .bf16 0x7F80#16
  let main_v4 : FVec F S512 .bf16 := broadcastInDim S512 ![] bcast_S_S512 main_cst_0
  let main_v5 : IVec S512 1 := cmpf .olt main_v3 main_v4
  (main_v2, main_v5)
-- ==== Pre_finite_ReferenceIdeal.lean ====
abbrev S768x2048 : Shape := ⟨2, ![768, 2048]⟩
abbrev S2048 : Shape := ⟨1, ![2048]⟩
abbrev S_ : Shape := ⟨0, ![]⟩

class Facts : Prop where
  bcast_S_S768x2048 : S_.BroadcastsInDim S768x2048 (![] : Fin 0 → Fin S768x2048.rank)
  bcast_S_S2048 : S_.BroadcastsInDim S2048 (![] : Fin 0 → Fin S2048.rank)

variable [Facts]

def fn {F : FTy → Type} [FloatOps F] (main_arg0 : FVec F S768x2048 .bf16) (main_arg1 : FVec F S2048 .bf16) (main_arg2 : FVec F S2048 .bf16) : IVec S768x2048 1 × IVec S2048 1 :=
  let main_v0 : FVec F S768x2048 .bf16 := Host.absf main_arg0
  let main_cst : FVec F S_ .bf16 := constant S_ .bf16 0x7F80#16
  let main_v1 : FVec F S768x2048 .bf16 := broadcastInDim S768x2048 ![] bcast_S_S768x2048 main_cst
  let main_v2 : IVec S768x2048 1 := cmpf .olt main_v0 main_v1
  let main_v3 : FVec F S2048 .bf16 := Host.absf main_arg1
  let main_cst_0 : FVec F S_ .bf16 := constant S_ .bf16 0x7F80#16
  let main_v4 : FVec F S2048 .bf16 := broadcastInDim S2048 ![] bcast_S_S2048 main_cst_0
  let main_v5 : IVec S2048 1 := cmpf .olt main_v3 main_v4
  (main_v2, main_v5)
-- ==== Kernel.lean ====
abbrev S768x512 : Shape := ⟨2, ![768, 512]⟩
abbrev S512 : Shape := ⟨1, ![512]⟩
abbrev S1x512 : Shape := ⟨2, ![1, 512]⟩
abbrev S2x512 : Shape := ⟨2, ![2, 512]⟩
abbrev S12x128 : Shape := ⟨2, ![12, 128]⟩
abbrev S3x12x128 : Shape := ⟨3, ![3, 12, 128]⟩
abbrev S3 : Shape := ⟨1, ![3]⟩
abbrev S_ : Shape := ⟨0, ![]⟩
abbrev S768x128 : Shape := ⟨2, ![768, 128]⟩
abbrev S6x768 : Shape := ⟨2, ![6, 768]⟩
abbrev S768x6 : Shape := ⟨2, ![768, 6]⟩
abbrev S768 : Shape := ⟨1, ![768]⟩
abbrev S768x1 : Shape := ⟨2, ![768, 1]⟩
abbrev S6x128 : Shape := ⟨2, ![6, 128]⟩
abbrev S1 : Shape := ⟨1, ![1]⟩
abbrev S1x12x128 : Shape := ⟨3, ![1, 12, 128]⟩

abbrev nBuf : Space → Nat
  | .hbm => 7
  | .vmem => 6
  | .smem => 0
  | _ => 0

abbrev bufTy : (tb : Table) → Fin (tcTables nBuf tb) → BufTy
  | .hbm, ⟨0, _⟩ => ⟨S768x512, .bf16⟩
  | .hbm, ⟨1, _⟩ => ⟨S512, .bf16⟩
  | .hbm, ⟨2, _⟩ => ⟨S512, .bf16⟩
  | .hbm, ⟨3, _⟩ => ⟨S1x512, .bf16⟩
  | .hbm, ⟨4, _⟩ => ⟨S1x512, .bf16⟩
  | .hbm, ⟨5, _⟩ => ⟨S2x512, .bf16⟩
  | .hbm, ⟨6, _⟩ => ⟨S768x512, .bf16⟩
  | .local _ .vmem, ⟨0, _⟩ => ⟨S768x512, .bf16⟩
  | .local _ .vmem, ⟨1, _⟩ => ⟨S2x512, .bf16⟩
  | .local _ .vmem, ⟨2, _⟩ => ⟨S768x512, .bf16⟩
  | .local _ .vmem, ⟨3, _⟩ => ⟨S12x128, .f32⟩
  | .local _ .vmem, ⟨4, _⟩ => ⟨S3x12x128, .f32⟩
  | .local _ .vmem, ⟨5, _⟩ => ⟨S768x512, .f32⟩
  | _, _ => ⟨S768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v120 : BitVec 32 := Scalar.addi v2 c1_i32_39
  let c4_i32_40 : BitVec 32 := 4#32
  let v121 : BitVec 32 := Scalar.remsi v120 c4_i32_40
  let c1_i32_44 : BitVec 32 := 1#32
  let v122 : BitVec 32 := Scalar.muli v121 c1_i32_44
  let v123 : BitVec 32 := Scalar.addi c0_i32_45 v122
  v123.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v130 : BitVec 32 := Scalar.addi v2 c2_i32_48
  let c4_i32_49 : BitVec 32 := 4#32
  let v131 : BitVec 32 := Scalar.remsi v130 c4_i32_49
  let c1_i32_53 : BitVec 32 := 1#32
  let v132 : BitVec 32 := Scalar.muli v131 c1_i32_53
  let v133 : BitVec 32 := Scalar.addi c0_i32_54 v132
  v133.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v140 : BitVec 32 := Scalar.addi v2 c3_i32_57
  let c4_i32_58 : BitVec 32 := 4#32
  let v141 : BitVec 32 := Scalar.remsi v140 c4_i32_58
  let c1_i32_62 : BitVec 32 := 1#32
  let v142 : BitVec 32 := Scalar.muli v141 c1_i32_62
  let v143 : BitVec 32 := Scalar.addi c0_i32_63 v142
  v143.toNat
abbrev stage0_0 : Fin 1 → Memref sig .tc .vmem S768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x2048 : Shape := ⟨2, ![768, 2048]⟩
abbrev S2048 : Shape := ⟨1, ![2048]⟩
abbrev S_ : Shape := ⟨0, ![]⟩
abbrev S768 : Shape := ⟨1, ![768]⟩
abbrev S768x1 : Shape := ⟨2, ![768, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S768x2048, .bf16⟩
  | .hbm, ⟨1, _⟩ => ⟨S2048, .bf16⟩
  | .hbm, ⟨2, _⟩ => ⟨S2048, .bf16⟩
  | .hbm, ⟨3, _⟩ => ⟨S768x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S768, .f32⟩
  | .hbm, ⟨8, _⟩ => ⟨S768x1, .f32⟩
  | .hbm, ⟨9, _⟩ => ⟨S_, .f32⟩
  | .hbm, ⟨10, _⟩ => ⟨S768x1, .f32⟩
  | .hbm, ⟨11, _⟩ => ⟨S768x1, .f32⟩
  | .hbm, ⟨12, _⟩ => ⟨S_, .i32⟩
  | .hbm, ⟨13, _⟩ => ⟨S_, .f32⟩
  | .hbm, ⟨14, _⟩ => ⟨S768, .f32⟩
  | .hbm, ⟨15, _⟩ => ⟨S768x1, .f32⟩
  | .hbm, ⟨16, _⟩ => ⟨S_, .f32⟩
  | .hbm, ⟨17, _⟩ => ⟨S768x1, .f32⟩
  | .hbm, ⟨18, _⟩ => ⟨S768x1, .f32⟩
  | .hbm, ⟨19, _⟩ => ⟨S768x2048, .f32⟩
  | .hbm, ⟨20, _⟩ => ⟨S768x2048, .f32⟩
  | .hbm, ⟨21, _⟩ => ⟨S768x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S768, .f32⟩
  | .hbm, ⟨27, _⟩ => ⟨S768x1, .f32⟩
  | .hbm, ⟨28, _⟩ => ⟨S768x1, .f32⟩
  | .hbm, ⟨29, _⟩ => ⟨S768x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S768x1, .f32⟩
  | .hbm, ⟨35, _⟩ => ⟨S768x1, .f32⟩
  | .hbm, ⟨36, _⟩ => ⟨S768x2048, .f32⟩
  | .hbm, ⟨37, _⟩ => ⟨S768x2048, .f32⟩
  | .hbm, ⟨38, _⟩ => ⟨S1x2048, .f32⟩
  | .hbm, ⟨39, _⟩ => ⟨S768x2048, .f32⟩
  | .hbm, ⟨40, _⟩ => ⟨S768x2048, .f32⟩
  | .hbm, ⟨41, _⟩ => ⟨S_, .f32⟩
  | .hbm, ⟨42, _⟩ => ⟨S768x1, .f32⟩
  | .hbm, ⟨43, _⟩ => ⟨S768x1, .f32⟩
  | .hbm, ⟨44, _⟩ => ⟨S768x1, .f32⟩
  | .hbm, ⟨45, _⟩ => ⟨S768x2048, .f32⟩
  | .hbm, ⟨46, _⟩ => ⟨S768x2048, .f32⟩
  | .hbm, ⟨47, _⟩ => ⟨S1x2048, .f32⟩
  | .hbm, ⟨48, _⟩ => ⟨S768x2048, .f32⟩
  | .hbm, ⟨49, _⟩ => ⟨S768x2048, .f32⟩
  | .hbm, ⟨50, _⟩ => ⟨S768x2048, .bf16⟩
  | _, _ => ⟨S768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.Geo.lean ====
/- The buffers of the kernel's exchange on one device: who talks to whom, the three landing slots, the
   statistics buffer after its two stores, and what a slot holds once a peer's copy has landed. -/
module

public import proofs.«01_k».proof.Proof.Gen.KernelIdeal.Skeleton
public import proofs.«01_k».proof.Proof.Gen.KernelIdeal.Frame
public import Idealize.ShloMosaic.Lib.Pipeline.Regions
public import Idealize.ShloMosaic.Lib.Pipeline.RegionTalk
public import Idealize.ShloMosaic.Lib.Rounds
public import Idealize.ShloMosaic.Lib.ShareLeaves
public import Idealize.ShloMosaic.Lib.ValueLayout
public import Idealize.ShloMosaic.Lib.Pointwise.Index

@[expose] public section

noncomputable section

namespace Cert.KernelIdeal.Talk

open Idealize.ShloMosaic Idealize.ShloMosaic.TcCoe
open Cert.KernelIdeal Cert.KernelIdeal.Gen

variable {F : FTy → Type} [FloatOps F]

/-! ## The peers -/

/-- The device `k + 1` places after `c`: the one `c`'s signal `k` and transfer `k` go to. -/
def up (c : Dev nD) (k : Fin 3) : Dev nD := ⟨(c.val + k.val + 1) % 4, Nat.mod_lt _ (by decide)⟩
/-- The device `k + 1` places before `c`: the one slot `k` of `c` is filled by. -/
def dn (c : Dev nD) (k : Fin 3) : Dev nD := ⟨(c.val + 3 - k.val) % 4, Nat.mod_lt _ (by decide)⟩
/-- The transfer that answers signal `j`. -/
def rev (j : Fin 3) : Fin 3 := ⟨2 - j.val, by omega⟩

/-- The device `k + 1` places before the one `k + 1` places after `c` is `c`. -/
theorem dn_up : ∀ (c : Dev nD) (k : Fin 3), dn (up c k) k = c := by decide
/-- The device `k + 1` places after the one `k + 1` places before `c` is `c`. -/
theorem up_dn : ∀ (c : Dev nD) (k : Fin 3), up (dn c k) k = c := by decide
/-- The slot of `c` that answers signal `k` is filled by the device that signal goes to. -/
theorem dn_rev : ∀ (c : Dev nD) (k : Fin 3), dn c (rev k) = up c k := by decide
/-- Answering twice gives the number back. -/
theorem rev_rev : ∀ k : Fin 3, rev (rev k) = k := by decide
/-- No device is one of its own peers. -/
theorem dn_ne : ∀ (c : Dev nD) (k : Fin 3), dn c k ≠ c := by decide
/-- The shift by `k + 1` places as a permutation of the devices. -/
def shift (k : Fin 3) : Dev nD ≃ Dev nD where
  toFun c := up c k
  invFun c := dn c k
  left_inv c := dn_up c k
  right_inv c := up_dn c k

/-- The device that the first signal names, as computed by the body. -/
theorem dev1_eq (c : Dev nD) : (⟨k0_dev1 c, k0_dev1_lt c⟩ : Dev nD) = up c 0 := Fin.ext (k0_dev1_eq c)
/-- The device that the second signal names, as computed by the body. -/
theorem dev2_eq (c : Dev nD) : (⟨k0_dev2 c, k0_dev2_lt c⟩ : Dev nD) = up c 1 := Fin.ext (k0_dev2_eq c)
/-- The device that the third signal names, as computed by the body. -/
theorem dev3_eq (c : Dev nD) : (⟨k0_dev3 c, k0_dev3_lt c⟩ : Dev nD) = up c 2 := Fin.ext (k0_dev3_eq c)
/-- The device that the first transfer names, as computed by the body. -/
theorem dev4_eq (c : Dev nD) : (⟨k0_dev4 c, k0_dev4_lt c⟩ : Dev nD) = up c 0 := Fin.ext (k0_dev4_eq c)
/-- The device that the second transfer names, as computed by the body. -/
theorem dev5_eq (c : Dev nD) : (⟨k0_dev5 c, k0_dev5_lt c⟩ : Dev nD) = up c 1 := Fin.ext (k0_dev5_eq c)
/-- The device that the third transfer names, as computed by the body. -/
theorem dev6_eq (c : Dev nD) : (⟨k0_dev6 c, k0_dev6_lt c⟩ : Dev nD) = up c 2 := Fin.ext (k0_dev6_eq c)

/-! ## The memory references -/

/-- The staged block of `x`. -/
abbrev xM : Memref sig .tc .vmem S768x512 .bf16 := Memref.whole cc0_stg0_0
/-- The staged scale and offset rows. -/
abbrev gM : Memref sig .tc .vmem S2x512 .bf16 := Memref.whole cc0_stg1_0
/-- The staged block of the result. -/
abbrev oM : Memref sig .tc .vmem S768x512 .bf16 := Memref.whole cc0_stg2_0
/-- The device's own packed statistics. -/
abbrev mM : Memref sig .tc .vmem S12x128 .f32 := Memref.whole cc0_scratch0
/-- The landing buffer, of three slots. -/
abbrev cM : Memref sig .tc .vmem S3x12x128 .f32 := Memref.whole cc0_scratch1
/-- The buffer for scale times `x`. -/
abbrev fM : Memref sig .tc .vmem S768x512 .f32 := Memref.whole cc0_scratch2

/-- The rectangle of each slot lies within the landing buffer. -/
theorem slot_inb (k : Fin 3) : ∀ a, (![k.val, 0, 0] : Fin 3 → ℕ) a + S1x12x128.size a ≤ S3x12x128.size a := by
  revert k; decide
/-- The rectangle of slot `k` in the landing buffer. -/
abbrev slotR (k : Fin 3) : Rect S3x12x128 := Rect.unit (s := S3x12x128) ![k.val, 0, 0] S1x12x128.size (slot_inb k)
/-- Slot `k` of the landing buffer, as a buffer of its own. -/
abbrev slotM (k : Fin 3) : Memref sig .tc .vmem S12x128 .f32 :=
  (cM.slice (slotR k) (fun _ => rfl)).squeeze S12x128 squeezes_S1x12x128_S12x128

/-- The body's spelling of slot 0. -/
theorem slot0 : ((cM.slice (Rect.unit (s := S3x12x128) ![0, 0, 0] S1x12x128.size inb_S3x12x128_S1x12x128_0_0_0) (fun _ => rfl)).squeeze S12x128 squeezes_S1x12x128_S12x128
    : Memref sig .tc .vmem S12x128 .f32) = slotM 0 := rfl
/-- The body's spelling of slot 1. -/
theorem slot1 : ((cM.slice (Rect.unit (s := S3x12x128) ![1, 0, 0] S1x12x128.size inb_S3x12x128_S1x12x128_1_0_0) (fun _ => rfl)).squeeze S12x128 squeezes_S1x12x128_S12x128
    : Memref sig .tc .vmem S12x128 .f32) = slotM 1 := rfl
/-- The body's spelling of slot 2. -/
theorem slot2 : ((cM.slice (Rect.unit (s := S3x12x128) ![2, 0, 0] S1x12x128.size inb_S3x12x128_S1x12x128_2_0_0) (fun _ => rfl)).squeeze S12x128 squeezes_S1x12x128_S12x128
    : Memref sig .tc .vmem S12x128 .f32) = slotM 2 := rfl

/-- The entries of slot `k` are those of its rectangle. -/
theorem slot_set (k : Fin 3) : (slotM k).view.set = (slotR k).set := by
  show (((View.whole cc0_scratch1).slice (slotR k)).reshape S12x128 _).set = _
  rw [View.set_reshape, View.set_slice]
  exact Finset.map_refl

/-- The entry of the landing buffer that entry `(r, l)` of slot `k` is. -/
theorem slot_emb (k : Fin 3) (r : Fin 12) (l : Fin 128) : (slotM k).view.emb (ix2 r l) = (ix3 k r l : S3x12x128.Idx) := by
  show (View.whole cc0_scratch1).emb ((slotR k).emb (Shape.reshapeEquiv _ (ix2 r l))) = _
  rw [show Shape.reshapeEquiv _ (ix2 r l) = (ix3 (0 : Fin 1) r l : S1x12x128.Idx) from ValueIdx.reshapeEquiv_ix2_1ab _ r l]
  show (slotR k).emb _ = _
  funext a
  apply Fin.ext
  rw [Rect.emb_apply]
  fin_cases a
  · show k.val + 1 * 0 = k.val; omega
  · show 0 + 1 * r.val = r.val; omega
  · show 0 + 1 * l.val = l.val; omega

/-- Two different slots share no entry. -/
theorem slots_disjoint (k k' : Fin 3) (h : k ≠ k') : Disjoint (slotM k).view.set (slotM k').view.set := by
  rw [slot_set, slot_set]
  exact Ring.lead_disjoint (s := S3x12x128) (0 : Fin 3) 1 (fun k : Fin 3 => ![k.val, 0, 0]) S1x12x128.size slot_inb
    (fun b => by show b.val = 1 * b.val; omega) rfl k k' h
/-- The three slots are the whole landing buffer. -/
theorem slots_cover : Finset.univ.biUnion (fun k => (show Finset S3x12x128.Idx from (slotM k).view.set)) = Finset.univ := by
  rw [show (fun k => (show Finset S3x12x128.Idx from (slotM k).view.set)) = fun k => (slotR k).set from funext slot_set]
  exact Ring.lead_cover (s := S3x12x128) (0 : Fin 3) 1 (fun k : Fin 3 => ![k.val, 0, 0]) S1x12x128.size slot_inb
    (fun b => by show b.val = 1 * b.val; omega)
    (fun b a ha => by fin_cases a <;> first | exact absurd rfl ha | rfl) rfl
    (fun a ha => by fin_cases a <;> first | exact absurd rfl ha | rfl) rfl

/-! ## The semaphores -/

/-- The semaphore transfer `k` is acknowledged on at its source. -/
def sendS (k : Fin 3) : DmaSem sig := ⟨3 + k.val, by show 3 + k.val < 9; omega⟩
/-- The semaphore the transfer into slot `k` is announced on. -/
def recvS (k : Fin 3) : DmaSem sig := ⟨6 + k.val, by show 6 + k.val < 9; omega⟩
/-- The body's spelling of the source semaphore of transfer 0. -/
theorem send0 : ((cc0_scratch3.slice (Rect.unit (s := S3) ![0] S1.size inb_S3_S1_0)).squeeze S_ squeezes_S1_S_).sem = sendS 0 := rfl
/-- The body's spelling of the source semaphore of transfer 1. -/
theorem send1 : ((cc0_scratch3.slice (Rect.unit (s := S3) ![1] S1.size inb_S3_S1_1)).squeeze S_ squeezes_S1_S_).sem = sendS 1 := rfl
/-- The body's spelling of the source semaphore of transfer 2. -/
theorem send2 : ((cc0_scratch3.slice (Rect.unit (s := S3) ![2] S1.size inb_S3_S1_2)).squeeze S_ squeezes_S1_S_).sem = sendS 2 := rfl
/-- The body's spelling of the landing semaphore of slot 0. -/
theorem recv0 : ((cc0_scratch4.slice (Rect.unit (s := S3) ![0] S1.size inb_S3_S1_0)).squeeze S_ squeezes_S1_S_).sem = recvS 0 := rfl
/-- The body's spelling of the landing semaphore of slot 1. -/
theorem recv1 : ((cc0_scratch4.slice (Rect.unit (s := S3) ![1] S1.size inb_S3_S1_1)).squeeze S_ squeezes_S1_S_).sem = recvS 1 := rfl
/-- The body's spelling of the landing semaphore of slot 2. -/
theorem recv2 : ((cc0_scratch4.slice (Rect.unit (s := S3) ![2] S1.size inb_S3_S1_2)).squeeze S_ squeezes_S1_S_).sem = recvS 2 := rfl

/-! ## The statistics buffer -/

/-- The statistics buffer from its two halves: rows 0 to 5 and rows 6 to 11. -/
def stack2 (p q : FVec F S6x128 .f32) : cc0_scratch0.ty.Contents (Elt F) := fun i : S12x128.Idx =>
  if h : (i 0).val < 6 then p (ix2 (⟨(i 0).val, h⟩ : Fin 6) (i 1))
  else q (ix2 (⟨(i 0).val - 6, by have : (i 0).val < 12 := (i 0).isLt; omega⟩ : Fin 6) (i 1))

/-- Rows 0 to 5 of the statistics buffer. -/
abbrev lowR : Rect S12x128 := Rect.unit (s := S12x128) ![0, 0] S6x128.size inb_S12x128_S6x128_0_0
/-- Rows 6 to 11 of the statistics buffer. -/
abbrev highR : Rect S12x128 := Rect.unit (s := S12x128) ![6, 0] S6x128.size inb_S12x128_S6x128_6_0

/-- Storing the two halves, over whatever the buffer held, leaves it at the two halves. -/
theorem stores_eq (f : cc0_scratch0.ty.Contents (Elt F)) (p q : FVec F S6x128 .f32) :
    (mM.access highR : View sig .tc _ _ _).write (Elt F) ((mM.access lowR : View sig .tc _ _ _).write (Elt F) f p Finset.univ) q Finset.univ = stack2 p q := by
  funext i
  have hi0 : (i 0).val < 12 := (i 0).isLt
  unfold stack2
  by_cases h : (i 0).val < 6
  · rw [dif_pos h, View.write_of_not_mem]
    · have e : i = (mM.access lowR : View sig .tc _ _ _).emb (ix2 (⟨(i 0).val, h⟩ : Fin 6) (i 1)) := by
        funext a
        apply Fin.ext
        show _ = (lowR.emb _ a : ℕ)
        rw [Rect.emb_apply]
        fin_cases a
        · show (i 0).val = 0 + 1 * (i 0).val; omega
        · show (i 1).val = 0 + 1 * (i 1).val; omega
      conv_lhs => rw [e]
      rw [View.write_emb_of_mem _ _ (Finset.mem_univ _)]
      rfl
    · intro hm
      obtain ⟨z, -, hz⟩ := Finset.mem_map.mp hm
      have := congrArg (fun y : S12x128.Idx => (y 0).val) hz
      have h2 : ((highR.emb z) 0 : ℕ) = 6 + 1 * (z 0).val := Rect.emb_apply _ _ _
      have h3 : ((highR.emb z) 0 : ℕ) = (i 0).val := this
      omega
  · rw [dif_neg h]
    have e : i = (mM.access highR : View sig .tc _ _ _).emb (ix2 (⟨(i 0).val - 6, by omega⟩ : Fin 6) (i 1)) := by
      funext a
      apply Fin.ext
      show _ = (highR.emb _ a : ℕ)
      rw [Rect.emb_apply]
      fin_cases a
      · show (i 0).val = 6 + 1 * ((i 0).val - 6); omega
      · show (i 1).val = 0 + 1 * (i 1).val; omega
    conv_lhs => rw [e]
    rw [View.write_emb_of_mem _ _ (Finset.mem_univ _)]
    rfl

/-- The landing buffer with slot `k` holding `g k`. -/
def stack3 (g : Fin 3 → cc0_scratch0.ty.Contents (Elt F)) : cc0_scratch1.ty.Contents (Elt F) := fun i : S3x12x128.Idx =>
  g (i 0) (ix2 (i 1) (i 2) : S12x128.Idx)

/-- A copy of a whole statistics buffer into slot `k`, over whatever the slot held, leaves the slot at it. -/
theorem landed_eq (g : Fin 3 → cc0_scratch0.ty.Contents (Elt F)) (k : Fin 3) (fd : cc0_scratch1.ty.Contents (Elt F)) :
    ∀ i ∈ (slotM k).view.set, (slotM k).view.write (Elt F) fd (mM.view.read (Elt F) (g k)) Finset.univ i = stack3 g i := by
  intro i hi
  obtain ⟨z, -, rfl⟩ := Finset.mem_map.mp hi
  obtain ⟨r, l, rfl⟩ : ∃ (r : Fin 12) (l : Fin 128), z = ix2 r l := ⟨z 0, z 1, eq_ix2 z⟩
  rw [View.write_emb_of_mem _ _ (Finset.mem_univ _), slot_emb]
  rfl

end Cert.KernelIdeal.Talk

end
-- ==== Proof.Proto.lean ====
/- The protocol of the exchange: what each semaphore's units bring with them, what each device owes at launch,
   the levels that order the waits, and the ghost state a device carries. -/
module

public import proofs.«01_k».proof.Proof.Geo

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable {F : FTy → Type} [FloatOps F]

/-- The ghost state of the exchange: rounds on semaphore cells, at most three duties in each. -/
abbrev UB : Type := URounds (GSem nD τ sig) (Fin 3)
/-- The whole ghost state: that of the staging and that of the exchange. -/
abbrev UU : Type := UR sig nD τ × UB

local notation "𝕄" => MT nD τ sig Unit (Elt F) ℕ UU ℕ

/-- The staging's part of the ghost state. -/
abbrev EP : Emb (UR sig nD τ) (MT nD τ sig Unit (Elt F) ℕ UU ℕ) := embL
/-- The exchange's part of the ghost state. -/
abbrev ER : Emb UB (MT nD τ sig Unit (Elt F) ℕ UU ℕ) := embR

variable (m : (ℓ : Loc nD τ sig) → Buf (Elt F) ℓ) (ρ : Dev nD → PrngReg)

/-! ## The cells -/

/-- The barrier semaphore. -/
abbrev barS : Sem sig := (SemArray.scalar (sig.barrier 0 rfl) : Sems sig S_).sem
/-- Device `c`'s barrier semaphore. -/
abbrev barCell (c : Dev nD) : GSem nD τ sig := ((c : Thread nD τ), .reg barS)
/-- Device `c`'s source semaphore of transfer `k`. -/
abbrev sendCell (c : Dev nD) (k : Fin 3) : GSem nD τ sig := ((c : Thread nD τ), .dma (sendS k))
/-- Device `c`'s landing semaphore of slot `k`. -/
abbrev recvCell (c : Dev nD) (k : Fin 3) : GSem nD τ sig := ((c : Thread nD τ), .dma (recvS k))

/-- The kernel's own semaphores: three for the sources, three for the landings. -/
abbrev osem : Fin 3 ⊕ Fin 3 → SemLoc sig := fun | .inl k => .dma (sendS k) | .inr k => .dma (recvS k)
/-- The six semaphores are different. -/
theorem osem_inj : Function.Injective osem := by decide
/-- None of the six is the barrier. -/
theorem osem_ne_bar : ∀ k, osem k ≠ .reg barS := fun k h => by rcases k with k | k <;> cases h

/-- The credit one transfer brings. -/
abbrev N : ℕ := (slotM 0 : Memref sig .tc .vmem S12x128 .f32).view.dmaCredit
/-- A transfer brings some credit. -/
theorem N_pos : 0 < N := View.dmaCredit_pos _ (by decide)

/-! ## The contents -/

/-- Device `c`'s block of `x`, as the body reads it. -/
abbrev xb (c : Dev nD) : cc0_stg0_0.ty.Contents (Elt F) := iblk m c 0 t0_0
/-- Device `c`'s stacked scale and offset rows, as the body reads them. -/
abbrev gb (c : Dev nD) : cc0_stg1_0.ty.Contents (Elt F) := iblk m c 1 t0_0

/-- The lane mask of the pack and the unpack. -/
def lanes : FVec F S768x128 .f32 :=
  k0_pay6 (F := F) (iota .tc S768x128 32 [1] iota_S768x128_d1_w32) (Scalar.select (Scalar.cmpi .eq 128#32 0#32) 1#32 128#32) k0_pay2 k0_pay3 k0_pay4 k0_pay5
/-- The row selector, which packs. -/
def rowsT : FVec F S6x768 .f32 := k0_pay7 (F := F)
/-- Its transpose, which unpacks. -/
def rows : FVec F S768x6 .f32 :=
  k0_pay10 (F := F) (iota .tc S768x6 32 [0] iota_S768x6_d0_w32) 128#32 k0_pay8 k0_pay9 (Scalar.extui (Scalar.cmpi .sgt 128#32 0#32))

/-- Device `c`'s own statistics: its row sums and its row sums of squares, packed. -/
def st (c : Dev nD) : cc0_scratch0.ty.Contents (Elt F) :=
  stack2 (k0_pay11 (k0_pay1 (xb m c)) lanes rowsT) (k0_pay12 (k0_pay1 (xb m c)) lanes rowsT)
/-- Its landing buffer once all three peers' statistics are in. -/
def cl (c : Dev nD) : cc0_scratch1.ty.Contents (Elt F) := stack3 fun k => st m (dn c k)

/-- Device `c`'s scale row. -/
def ga (c : Dev nD) : FVec F S1x512 .bf16 :=
  k0_pay13 (gM.view.readAt (Elt F) (Rect.unit (s := S2x512) ![0, 0] S1x512.size inb_S2x512_S1x512_0_0).toLoadRect (gb m c))
/-- Device `c`'s offset row. -/
def be (c : Dev nD) : FVec F S1x512 .bf16 :=
  k0_pay14 (gM.view.readAt (Elt F) (Rect.unit (s := S2x512) ![1, 0] S1x512.size inb_S2x512_S1x512_1_0).toLoadRect (gb m c))
/-- Its scale times its block of `x`. -/
def gx (c : Dev nD) : cc0_scratch2.ty.Contents (Elt F) := k0_pay15 (k0_pay1 (xb m c)) (ga m c)
/-- Slot `k` as the body loads it. -/
def ld (c : Dev nD) (k : Fin 3) : Vec F S1x12x128 .f32 := cM.view.readAt (Elt F) (slotR k).toLoadRect (cl m c)

/-- The block the kernel leaves on device `c`. -/
def outAt (c : Dev nD) : cc0_stg2_0.ty.Contents (Elt F) :=
  k0_pay16 lanes rows (ga m c) (be m c) (st m c) (ld m c 0) (ld m c 1) (ld m c 2) (gx m c)

/-! ## The points-tos that travel -/

/-- Slot `k` of device `c`, owned whole, at contents `f`. -/
abbrev slotPts (c : Dev nD) (k : Fin 3) (f : cc0_scratch1.ty.Contents (Elt F)) : sProp 𝕄 :=
  (slotM k : Memref sig .tc .vmem S12x128 .f32).view.loc (c : Thread nD τ) ↦[(slotM k : Memref sig .tc .vmem S12x128 .f32).view.set]{fullShare} f
/-- The share of the statistics buffer transfer `k` reads from. -/
abbrev lent (k : Fin 3) : PosShare TreeShare := shareTok fullShare 3 k
/-- The share of the statistics buffer that is left when all three are lent. -/
abbrev kept : PosShare TreeShare := shareDrop fullShare 3
/-- Device `c`'s statistics buffer at its statistics, owned at share `q`. -/
abbrev stPts (c : Dev nD) (q : PosShare TreeShare) : sProp 𝕄 :=
  (mM : Memref sig .tc .vmem S12x128 .f32).view.loc (c : Thread nD τ) ↦[(mM : Memref sig .tc .vmem S12x128 .f32).view.set]{q} st m c

/-- The statistics buffer's entries are all of them. -/
theorem m_set : (mM : Memref sig .tc .vmem S12x128 .f32).view.set = Finset.univ := View.set_whole _

/-- The statistics buffer whole is the kept share and the three lent ones. -/
theorem st_shares (c : Dev nD) :
    (((c : Thread nD τ).loc cc0_scratch0) ↦{fullShare} st m c : sProp 𝕄) ⊣⊢ iprop(stPts m c kept ∗ stPts m c (lent 0) ∗ stPts m c (lent 1) ∗ stPts m c (lent 2)) := by
  unfold stPts
  rw [m_set]
  have h := pointsTo_toks (nD := nD) (τ := τ) (sig := sig) (Ix := Unit) (Val := Elt F) (Name := ℕ) (U := UU) (Lvl := ℕ)
    (ℓ := (c : Thread nD τ).loc cc0_scratch0) (S := Finset.univ) (f := st m c) fullShare 3
  rw [Ring.bigSep_fin3] at h
  exact h

/-- The landing buffer whole, at one contents, is its three slots. -/
theorem slots_eq (c : Dev nD) (f : cc0_scratch1.ty.Contents (Elt F)) :
    (((c : Thread nD τ).loc cc0_scratch1) ↦{fullShare} f : sProp 𝕄) = iprop(slotPts c 0 f ∗ slotPts c 1 f ∗ slotPts c 2 f) := by
  rw [Ring.pointsTo_blocks (ℓ := (c : Thread nD τ).loc cc0_scratch1) (fun k => (slotM k).view.set) slots_disjoint slots_cover f, Ring.bigSep_fin3]

/-! ## The schedule -/

/-- With its signal `j`, device `dn c j` hands `c` the slot `c` is to fill there, and that it stands at the start of
    that slot's announcements. -/
def barPay (c : Dev nD) (j : Fin 3) : sProp 𝕄 :=
  iprop((∃ f, slotPts (dn c j) (rev j) f) ∗ reached ER (recvCell (dn c j) (rev j)) 0)
/-- A source semaphore's credit gives back the share that its transfer was lent. -/
def sendPay (c : Dev nD) (k : Fin 3) : sProp 𝕄 := stPts m c (lent k)
/-- A landing's credit hands over the slot with the sender's statistics in it. -/
def recvPay (c : Dev nD) (k : Fin 3) : sProp 𝕄 := slotPts c k (cl m c)

/-- One round: three units on a barrier, one credit on each transfer semaphore. -/
def rd : Rounds.Schedule (GSem nD τ sig) (Fin 3) 𝕄 where
  duties g r := if r = 0 ∧ g.1.2 = .tc then
      (match g.2 with | .reg _ => Finset.univ | .dma s => if 3 ≤ s.val then {0} else ∅)
    else ∅
  unitless _ := False
  amount g _ _ := match g.2 with | .reg _ => 1 | .dma _ => N
  payload g _ d := match g.2 with
    | .reg _ => barPay g.1.1 d
    | .dma s => if h : 3 ≤ s.val ∧ s.val < 6 then sendPay m g.1.1 ⟨s.val - 3, by omega⟩
        else if h : 6 ≤ s.val then recvPay m g.1.1 ⟨s.val - 6, by have : s.val < 9 := s.isLt; omega⟩ else iprop(emp)
  amount_pos g _ _ _ := by
    rcases g with ⟨t, s | s⟩
    · exact Nat.one_pos
    · exact N_pos

/-- What a duty hands over may be kept in an invariant. -/
instance rd_payload_storable (g : GSem nD τ sig) (r : ℕ) (d : Fin 3) : BI.Storable (upEmb : UEmb _ 𝕄) ((rd (F := F) m).payload g r d) := by
  rcases g with ⟨t, s | s⟩
  · show BI.Storable upEmb (barPay t.1 d)
    unfold barPay; infer_instance
  · show BI.Storable upEmb (if h : 3 ≤ s.val ∧ s.val < 6 then sendPay m t.1 ⟨s.val - 3, by omega⟩
        else if h : 6 ≤ s.val then recvPay m t.1 ⟨s.val - 6, by have : s.val < 9 := s.isLt; omega⟩ else iprop(emp))
    unfold sendPay recvPay
    (repeat' split) <;> infer_instance

section Sched
variable (c : Dev nD) (k : Fin 3)

/-- A barrier has all three duties. -/
theorem duties_bar : (rd (F := F) m).duties (barCell c) 0 = Finset.univ := by dsimp only [rd]; exact if_pos ⟨rfl, rfl⟩
/-- A source semaphore has one duty. -/
theorem duties_send : (rd (F := F) m).duties (sendCell c k) 0 = {0} := by
  dsimp only [rd]; exact (if_pos ⟨rfl, rfl⟩).trans (if_pos (show 3 ≤ 3 + k.val by omega))
/-- A landing semaphore has one duty. -/
theorem duties_recv : (rd (F := F) m).duties (recvCell c k) 0 = {0} := by
  dsimp only [rd]; exact (if_pos ⟨rfl, rfl⟩).trans (if_pos (show 3 ≤ 6 + k.val by omega))
/-- There is no duty after the first round. -/
theorem duties_later (g : GSem nD τ sig) : ∀ r, 1 ≤ r → (rd (F := F) m).duties g r = ∅ :=
  fun r hr => by dsimp only [rd]; exact if_neg fun h => by omega

/-- A signal brings one unit. -/
theorem amount_bar (d : Fin 3) : (rd (F := F) m).amount (barCell c) 0 d = 1 := rfl
/-- A source semaphore's duty brings one transfer's credit. -/
theorem amount_send (d : Fin 3) : (rd (F := F) m).amount (sendCell c k) 0 d = N := rfl
/-- A landing's duty brings one transfer's credit. -/
theorem amount_recv (d : Fin 3) : (rd (F := F) m).amount (recvCell c k) 0 d = N := rfl

/-- A barrier expects three units. -/
theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- A source semaphore expects one transfer's credit. -/
theorem expect_send : (rd (F := F) m).expect (sendCell c k) 0 = N := by
  unfold Schedule.expect Schedule.amountOf; rw [duties_send, Finset.sum_singleton, amount_send]
/-- A landing semaphore expects one transfer's credit. -/
theorem expect_recv : (rd (F := F) m).expect (recvCell c k) 0 = N := by
  unfold Schedule.expect Schedule.amountOf; rw [duties_recv, Finset.sum_singleton, amount_recv]

/-- What a signal hands over. -/
theorem payload_bar (d : Fin 3) : (rd (F := F) m).payload (barCell c) 0 d = barPay c d := rfl
/-- What a source semaphore's credit hands over. -/
theorem payload_send (d : Fin 3) : (rd (F := F) m).payload (sendCell c k) 0 d = sendPay m c k := by
  refine (dif_pos (show 3 ≤ 3 + k.val ∧ 3 + k.val < 6 by omega)).trans ?_
  exact congrArg (sendPay m c) (Fin.ext (show 3 + k.val - 3 = k.val by omega))
/-- What a landing's credit hands over. -/
theorem payload_recv (d : Fin 3) : (rd (F := F) m).payload (recvCell c k) 0 d = recvPay m c k := by
  refine (dif_neg (show ¬ (3 ≤ 6 + k.val ∧ 6 + k.val < 6) by omega)).trans ((dif_pos (show 6 ≤ 6 + k.val by omega)).trans ?_)
  exact congrArg (recvPay m c) (Fin.ext (show 6 + k.val - 6 = k.val by omega))

/-- What the wait on the barrier takes out: the hand-overs of the three signals. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, Ring.bigSep_fin3, payload_bar, payload_bar, payload_bar]
/-- What the wait on a source semaphore takes out. -/
theorem rest_send : bigSep ((rd (F := F) m).duties (sendCell c k) 0 \ ∅) (fun d => (rd (F := F) m).payload (sendCell c k) 0 d) = sendPay m c k := by
  rw [Finset.sdiff_empty, duties_send, bigSep_singleton, payload_send]
/-- What the wait on a landing semaphore takes out. -/
theorem rest_recv : bigSep ((rd (F := F) m).duties (recvCell c k) 0 \ ∅) (fun d => (rd (F := F) m).payload (recvCell c k) 0 d) = recvPay m c k := by
  rw [Finset.sdiff_empty, duties_recv, bigSep_singleton, payload_recv]

end Sched

/-! ## What a device owes; the levels -/

/-- Owed once the first two transfers are out: the last landing. -/
def X₁ (c : Dev nD) : CellTallies nD τ sig Unit := tallyAt (recvCell (up c 2) 2) () N
/-- Owed once the first transfer is out. -/
def X₂ (c : Dev nD) : CellTallies nD τ sig Unit := X₁ c + tallyAt (recvCell (up c 1) 1) () N
/-- Owed once all three signals are sent: the three landings. -/
def X₃ (c : Dev nD) : CellTallies nD τ sig Unit := X₂ c + tallyAt (recvCell (up c 0) 0) () N
/-- Owed once the first two signals are sent. -/
def B₁ (c : Dev nD) : CellTallies nD τ sig Unit := X₃ c + tallyAt (barCell (up c 2)) () 1
/-- Owed once the first signal is sent. -/
def B₂ (c : Dev nD) : CellTallies nD τ sig Unit := B₁ c + tallyAt (barCell (up c 1)) () 1
/-- Owed at launch: the three signals and the three landings. -/
def O₀ (c : Dev nD) : CellTallies nD τ sig Unit := B₂ c + tallyAt (barCell (up c 0)) () 1

/-- Each semaphore of a core has one index, and no other semaphore has any. -/
def L (g : GSem nD τ sig) : Finset Unit := if g.1.2 = .tc then {()} else ∅
/-- A wait on a barrier comes before a wait on a landing; staging and sources before both. -/
def lv (g : GSem nD τ sig) (_ : Unit) : ℕ := match g.2 with | .reg _ => 1 | .dma s => if 6 ≤ s.val then 2 else 0

/-- No index elsewhere than on a core. -/
theorem L_of_ne (g : GSem nD τ sig) (h : g.1.2 ≠ .tc) : L g = ∅ := if_neg h
/-- One index on a core. -/
theorem L_tc (c : Dev nD) (sm : SemLoc sig) : L ((c : Thread nD τ), sm) = {()} := if_pos rfl
/-- Every index counts on a core. -/
theorem mem_L (c : Dev nD) (sm : SemLoc sig) (u : Unit) : u ∈ L ((c : Thread nD τ), sm) := by
  rw [L_tc]; exact Finset.mem_singleton_self _
/-- A barrier's level. -/
theorem lv_bar (c : Dev nD) (u : Unit) : lv (barCell c) u = 1 := rfl
/-- A landing's level. -/
theorem lv_recv (c : Dev nD) (k : Fin 3) (u : Unit) : lv (recvCell c k) u = 2 := if_pos (show 6 ≤ 6 + k.val by omega)

/-- A tally with something in a cell has it in one of its two summands. -/
theorem pos_add {a b : CellTallies nD τ sig Unit} {g : GSem nD τ sig} {u : Unit} (h : 0 < (a + b) g u) : 0 < a g u ∨ 0 < b g u := by
  rw [Pi.add_apply, Finsupp.add_apply] at h
  exact Nat.add_pos_iff_pos_or_pos.mp h
/-- A one-cell tally has something in that cell only. -/
theorem pos_at {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

/-- What is owed after the signals is owed to landings. -/
theorem X₃_pos {c : Dev nD} {g : GSem nD τ sig} {u : Unit} (h : 0 < X₃ c g u) : ∃ k, g = recvCell (up c k) k := by
  rcases pos_add h with h | h
  · rcases pos_add h with h | h
    · exact ⟨2, pos_at h⟩
    · exact ⟨1, pos_at h⟩
  · exact ⟨0, pos_at h⟩
/-- What is owed at launch is owed to landings or to barriers. -/
theorem O₀_pos {c : Dev nD} {g : GSem nD τ sig} {u : Unit} (h : 0 < O₀ c g u) :
    (∃ k, g = recvCell (up c k) k) ∨ ∃ k, g = barCell (up c k) := by
  rcases pos_add h with h | h
  · rcases pos_add h with h | h
    · rcases pos_add h with h | h
      · exact .inl (X₃_pos h)
      · exact .inr ⟨2, pos_at h⟩
    · exact .inr ⟨1, pos_at h⟩
  · exact .inr ⟨0, pos_at h⟩

/-- At its barrier a device owes only landings, which come after. -/
theorem mayWait_bar (c : Dev nD) : (levAts L lv : sProp 𝕄) ⊢ MayWait (c : Thread nD τ) (.reg barS) () (X₃ c) :=
  MayOwe.of_cut (L := L) (lev := lv) 1 (fun p hp => by rw [Finset.mem_singleton.mp hp]; exact mem_L _ _ _)
    (fun g u hg => by obtain ⟨k, rfl⟩ := X₃_pos hg; exact mem_L _ _ _)
    (fun p hp => by rw [Finset.mem_singleton.mp hp]; exact le_of_eq (lv_bar c ()))
    (fun g u hg => by obtain ⟨k, rfl⟩ := X₃_pos hg; rw [lv_recv]; decide)

/-! ## The ghost state -/

/-- The barrier cells, one to a device. -/
def barEmb : Dev nD ↪ GSem nD τ sig := ⟨fun c => barCell c, fun _ _ h => congrArg (fun g : GSem nD τ sig => g.1.1) h⟩
/-- The cells of the kernel's own semaphores, six to a device. -/
def scEmb : Dev nD × (Fin 3 ⊕ Fin 3) ↪ GSem nD τ sig :=
  ⟨fun ck => ((ck.1 : Thread nD τ), osem ck.2), fun _ _ h =>
    Prod.ext (congrArg (fun g : GSem nD τ sig => g.1.1) h) (osem_inj (congrArg Prod.snd h))⟩
/-- All barrier cells. -/
abbrev barCells : Finset (GSem nD τ sig) := Finset.univ.map barEmb
/-- All cells of the kernel's own semaphores. -/
abbrev scCells : Finset (GSem nD τ sig) := Finset.univ.map scEmb

/-- A barrier cell is among the cells of the exchange. -/
theorem bar_mem (c : Dev nD) : barCell c ∈ (barCells ∪ scCells : Finset (GSem nD τ sig)) :=
  Finset.mem_union_left _ (Finset.mem_map_of_mem barEmb (Finset.mem_univ c))
/-- A source cell is among the cells of the exchange. -/
theorem send_mem (c : Dev nD) (k : Fin 3) : sendCell c k ∈ (barCells ∪ scCells : Finset (GSem nD τ sig)) :=
  Finset.mem_union_right _ (Finset.mem_map_of_mem scEmb (Finset.mem_univ (c, (.inl k : Fin 3 ⊕ Fin 3))))
/-- A landing cell is among the cells of the exchange. -/
theorem recv_mem (c : Dev nD) (k : Fin 3) : recvCell c k ∈ (barCells ∪ scCells : Finset (GSem nD τ sig)) :=
  Finset.mem_union_right _ (Finset.mem_map_of_mem scEmb (Finset.mem_univ (c, (.inr k : Fin 3 ⊕ Fin 3))))

/-- What every device may consult: the invariant of every cell, under one map of names, and that every barrier cell
    is at its start. -/
def records (κ : GSem nD τ sig → ℕ) : sProp 𝕄 :=
  iprop((bigSep (barCells ∪ scCells) fun g => cellInv ER (rd m) (κ g) g) ∗ bigSep barCells fun g => reached ER g 0)

/-- The records may be consulted any number of times. -/
instance records_persistent (κ : GSem nD τ sig → ℕ) : BI.Persistent (records m κ) := by unfold records; infer_instance

/-- The records hold the invariant of each cell. -/
theorem inv_at (κ : GSem nD τ sig → ℕ) {g : GSem nD τ sig} (hg : g ∈ (barCells ∪ scCells : Finset (GSem nD τ sig))) :
    records m κ ⊢ (cellInv ER (rd m) (κ g) g : sProp 𝕄) := by
  have h : (bigSep (barCells ∪ scCells) fun g => (cellInv ER (rd m) (κ g) g : sProp 𝕄)) ⊢ cellInv ER (rd m) (κ g) g := bigSep_elim hg
  unfold records
  iintro ⟨H, -⟩
  iapply h; iexact H
/-- The records hold that each barrier is at its start. -/
theorem reached_at (κ : GSem nD τ sig → ℕ) (c : Dev nD) : records m κ ⊢ (reached ER (barCell c) 0 : sProp 𝕄) := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h; iexact H

/-- The tokens of what device `c` pays: the three signals, its own three source semaphores, the three landings. -/
def pays (c : Dev nD) : sProp 𝕄 :=
  iprop((dutyTok ER (barCell (up c 0)) 0 0 ∗ dutyTok ER (barCell (up c 1)) 0 1 ∗ dutyTok ER (barCell (up c 2)) 0 2)
    ∗ (dutyTok ER (sendCell c 0) 0 0 ∗ dutyTok ER (sendCell c 1) 0 0 ∗ dutyTok ER (sendCell c 2) 0 0)
    ∗ (dutyTok ER (recvCell (up c 0) 0) 0 0 ∗ dutyTok ER (recvCell (up c 1) 1) 0 0 ∗ dutyTok ER (recvCell (up c 2) 2) 0 0))

/-- What is dealt to device `c` at launch: its place at its barrier, the right to open its own semaphores' cells, and
    the tokens of what it pays. -/
def linear (c : Dev nD) : sProp 𝕄 :=
  iprop(atPos ER (barCell c) 0 ∅ 0
    ∗ ((openTok ER (sendCell c 0) ∗ openTok ER (sendCell c 1) ∗ openTok ER (sendCell c 2))
      ∗ (openTok ER (recvCell c 0) ∗ openTok ER (recvCell c 1) ∗ openTok ER (recvCell c 2)))
    ∗ pays c)

/-- A cell once open: the owner's place in it, and that its start is reached. -/
def at0 (g : GSem nD τ sig) : sProp 𝕄 := iprop(atPos ER g 0 ∅ 0 ∗ reached ER g 0)

/-- The same with its own cells open. -/
def opened (κ : GSem nD τ sig → ℕ) (c : Dev nD) : sProp 𝕄 :=
  iprop(records m κ ∗ atPos ER (barCell c) 0 ∅ 0
    ∗ ((at0 (sendCell c 0) ∗ at0 (sendCell c 1) ∗ at0 (sendCell c 2)) ∗ (at0 (recvCell c 0) ∗ at0 (recvCell c 1) ∗ at0 (recvCell c 2)))
    ∗ pays c)

/-- The credit it waits with: three units at its barrier, one transfer at each landing. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

/-- A cell whose only round is over closes, its counter at zero. -/
theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

/-- A device opens one of its own cells, its counter at zero. -/
theorem opn (κ : GSem nD τ sig → ℕ) (g : GSem nD τ sig) (hg : g ∈ (barCells ∪ scCells : Finset (GSem nD τ sig))) :
    iprop(records m κ ∗ openTok ER g ∗ semVal g 0) ⊢ (|={Set.univ}=> at0 g : sProp 𝕄) := by
  unfold at0
  iintro ⟨#HR, Ho, Hs⟩
  imod (Rounds.cell_open ER (rd m) (g := g) (Set.mem_univ (κ g))) $$ [Ho Hs] with ⟨Hat, #Hr⟩
  · isplitr; · iapply (inv_at m κ hg); iexact HR
    isplitl [Ho] <;> iassumption
  imodintro
  isplitl [Hat]; · iexact Hat
  iexact Hr

/-- No loop variants are needed. -/
abbrev 𝒱₀ : Variants := Variants.none

end Cert.KernelIdeal.Talk

end
-- ==== Proof.Body.lean ====
/- The kernel's body run once, at a symbolic device: from what the region hands it to the statistics exchanged, the
   result stored and every semaphore back at zero. -/
module

public import proofs.«01_k».proof.Proof.Proto

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- The three scratch buffers, at contents not chosen. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What of the protocol enters the body. -/
def Xk (c : Dev nD) : sProp 𝕄 := iprop((∃ κ, opened m κ c) ∗ credits c ∗ levAts L lv)
/-- The six counters of the kernel's own semaphores, at zero. -/
def zeros (c : Dev nD) : sProp 𝕄 :=
  iprop((semVal (sendCell c 0) 0 ∗ semVal (sendCell c 1) 0 ∗ semVal (sendCell c 2) 0)
    ∗ (semVal (recvCell c 0) 0 ∗ semVal (recvCell c 1) 0 ∗ semVal (recvCell c 2) 0))

/-- Held before the body: its part of the protocol, the scratch buffers and the random register. -/
def Φ₀ (c : Dev nD) : sProp 𝕄 := iprop(Xk m c ∗ scratch c ∗ ∃ r, prngReg c r)
/-- Held after the body: its semaphores at zero, the scratch buffers and the random register. -/
def Φ₁ (c : Dev nD) : sProp 𝕄 := iprop((zeros c ∗ semVal (barCell c) 0) ∗ scratch c ∗ ∃ r, prngReg c r)

/-- The region's proof data: the arrays and what the body leaves staged, what is held before and after, what is owed before and after. -/
def dat (c : Dev nD) : Dat τ (Elt F) Unit ℕ UU ℕ cfg0 c where
  A w := V m c (Pipeline.arrRef spec0 w)
  after w _ := match w with
    | ⟨0, _⟩ => xb m c
    | ⟨1, _⟩ => gb m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer at contents `X`, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## What the loads read and the stores leave -/

/-- The two zero offsets. -/
theorem hz : (![0, 0] : Fin 2 → Nat) = fun _ => 0 := funext fun a => by fin_cases a <;> rfl

/-- The whole of a block of `x`. -/
abbrev xR : Rect S768x512 := Rect.unit (s := S768x512) ![0, 0] S768x512.size inb_S768x512_S768x512_0_0
/-- The load of `x` reads the buffer's contents. -/
theorem read_x (f : cc0_stg0_0.ty.Contents (Elt F)) : (xM : Memref sig .tc .vmem S768x512 .bf16).view.readAt (Elt F) xR.toLoadRect f = f :=
  Memref.readAt_unit_zero (Elt F) cc0_stg0_0 hz _ f
/-- The load of scale times `x` reads the buffer's contents. -/
theorem read_f (f : cc0_scratch2.ty.Contents (Elt F)) : (fM : Memref sig .tc .vmem S768x512 .f32).view.readAt (Elt F) xR.toLoadRect f = f :=
  Memref.readAt_unit_zero (Elt F) cc0_scratch2 hz _ f
/-- The load of the statistics reads the buffer's contents. -/
theorem read_m (f : cc0_scratch0.ty.Contents (Elt F)) :
    (mM : Memref sig .tc .vmem S12x128 .f32).view.readAt (Elt F) (Rect.unit (s := S12x128) ![0, 0] S12x128.size inb_S12x128_S12x128_0_0).toLoadRect f = f :=
  Memref.readAt_unit_zero (Elt F) cc0_scratch0 hz _ f
/-- The store of scale times `x` leaves what is stored. -/
theorem write_f (f w : cc0_scratch2.ty.Contents (Elt F)) : (fM.access xR : View sig .tc _ _ _).write (Elt F) f w Finset.univ = w :=
  Memref.write_access_unit_zero_univ (Elt F) cc0_scratch2 hz _ f w
/-- The store of the result leaves what is stored. -/
theorem write_o (f w : cc0_stg2_0.ty.Contents (Elt F)) : (oM.access xR : View sig .tc _ _ _).write (Elt F) f w Finset.univ = w :=
  Memref.write_access_unit_zero_univ (Elt F) cc0_stg2_0 hz _ f w

section Steps
variable (κ : GSem nD τ sig → ℕ)

/-- Transfer `k`, to `n = up c k`: the lent share of the statistics and the peer's slot go in, a credit at the source's
    semaphore comes out, and the landing is no longer owed. -/
theorem wp_send_k (c n : Dev nD) (k : Fin 3) (hn : n = up c k) {hsc : (slotM k : Memref sig (Dev.tc n : Thread nD τ).2.kind .vmem S12x128 .f32).view.ref.isScScratch = false}
    {hsrc : (mM : Memref sig .tc .vmem S12x128 .f32).view.WordExact} {hdst : (slotM k : Memref sig .tc .vmem S12x128 .f32).view.WordExact}
    {hsem : DmaTarget.Typed .vmem (.dma (recvS k)) (.remote (Dev.tc n : Thread nD τ) (slotM k : Memref sig .tc .vmem S12x128 .f32) (.dma (sendS k)) hsc)}
    {α : Type} {Q : α → sProp 𝕄} {kont : PUnit → Prog (TpuEff nD τ sig (Elt F) Λ₀ .tc) α}
    (fn : cc0_scratch1.ty.Contents (Elt F)) (X X' : CellTallies nD τ sig Unit) (hX : X' = X + tallyAt (recvCell (up c k) k) () N) (W : Waits sig Unit) :
    iprop(cellInv ER (rd m) (κ (sendCell c k)) (sendCell c k) ∗ cellInv ER (rd m) (κ (recvCell (up c k) k)) (recvCell (up c k) k)
        ∗ stPts m c (lent k) ∗ slotPts (up c k) k fn
        ∗ owes (c : Thread nD τ) X' W
        ∗ dutyTok ER (sendCell c k) 0 0 ∗ reached ER (sendCell c k) 0
        ∗ dutyTok ER (recvCell (up c k) k) 0 0 ∗ reached ER (recvCell (up c k) k) 0)
      ⊢ iprop(((cred (tallyAt (sendCell c k) () N) ∗ owes (c : Thread nD τ) X W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma mM (.remote (Dev.tc n : Thread nD τ) (slotM k) (.dma (sendS k)) hsc) (.dma (recvS k)) hsrc hdst hsem) kont) Q) := by
  subst hn
  have h₁ : (stPts m c (lent k) : sProp 𝕄) ⊢ (rd m).payload (sendCell c k) 0 0 := by rw [payload_send]; exact BI.Entails.refl _
  have h₂ : ((slotM k : Memref sig .tc .vmem S12x128 .f32).view.loc (up c k : Thread nD τ) ↦[(slotM k : Memref sig .tc .vmem S12x128 .f32).view.set]{fullShare}
      ((slotM k).view.write (Elt F) fn (mM.view.read (Elt F) (st m c)) Finset.univ) : sProp 𝕄) ⊢ (rd m).payload (recvCell (up c k) k) 0 0 := by
    rw [payload_recv]; unfold recvPay
    refine Entails.of_eq (pointsTo_congr fun i hi => ?_)
    have h := landed_eq (F := F) (fun j => st m (dn (up c k) j)) k fn i hi
    simp only [dn_up] at h
    exact h
  have h₃ : (0 : Fin 3) ∈ (rd (F := F) m).duties (sendCell c k) 0 := by rw [duties_send]; exact Finset.mem_singleton_self _
  have h₄ : (0 : Fin 3) ∈ (rd (F := F) m).duties (recvCell (up c k) k) 0 := by rw [duties_recv]; exact Finset.mem_singleton_self _
  have h₅ : (slotM k : Memref sig .tc .vmem S12x128 .f32).view.amount (.dma (recvS k)) = N := rfl
  have h₆ : τ.routes (c : Thread nD τ) (up c k : Thread nD τ) = true := by routes
  exact Rounds.wp_send_pointsTo 𝒱₀ ER (rd m) (c : Thread nD τ) none (c' := (up c k : Thread nD τ)) (src := mM) (dst := slotM k) (hsc := hsc) (hsrc := hsrc) (hdst := hdst) (hsem := hsem)
    (κ₁ := κ (sendCell c k)) (κ₂ := κ (recvCell (up c k) k)) (fs := st m c) (fd := fn) (q := lent k)
    (r₁ := 0) (r₂ := 0) (d₁ := 0) (d₂ := 0) h₃ h₄ () () N h₅ (amount_send m c k 0) (amount_recv m (up c k) k 0) X hX (W := W) h₁ h₂ h₆

/-- The wait on the source's semaphore of transfer `k`: the lent share comes back. -/
theorem wp_sent_k (c : Dev nD) (k : Fin 3) {hsrc : (slotM k : Memref sig .tc .vmem S12x128 .f32).view.WordExact} {hdst : (mM : Memref sig .tc .vmem S12x128 .f32).view.WordExact}
    {α : Type} {Q : α → sProp 𝕄} {kont : PUnit → Prog (TpuEff nD τ sig (Elt F) Λ₀ .tc) α} (W : Waits sig Unit) :
    iprop(cellInv ER (rd m) (κ (sendCell c k)) (sendCell c k) ∗ cred (tallyAt (sendCell c k) () N) ∗ owes (c : Thread nD τ) 0 W
        ∗ atPos ER (sendCell c k) 0 ∅ 0)
      ⊢ iprop(((owes (c : Thread nD τ) 0 (insert (SemLoc.dma (sendS k), ()) W) ∗ atPos ER (sendCell c k) (0 + 1) ∅ 0 ∗ stPts m c (lent k))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k) (slotM k) mM hsrc hdst) kont) Q) := by
  iintro ⟨#HI, Hc, HO, Hat⟩ Hk
  iapply (Rounds.wp_wait_rest_token 𝒱₀ ER (rd m) (c : Thread nD τ) none (κ := κ (sendCell c k))
      (wpE_waitDma2_eq 𝒱₀ (c : Thread nD τ) none Set.univ (src := slotM k) (dst := mM) (hsrc := hsrc) (hdst := hdst)) (Set.mem_univ _) () (O := 0) (W := W) (R := 0) (m := 0) (T := ∅)
      ((Nat.zero_add _).trans (expect_send m c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexact HO
  isplitl [Hat]; · iexact Hat
  unfold sendPay; iexact Hp

/-- The wait on the landing of slot `k`: the slot comes back at the peer's statistics. -/
theorem wp_landed_k (c : Dev nD) (k : Fin 3) {hsrc : (mM : Memref sig .tc .vmem S12x128 .f32).view.WordExact} {hdst : (slotM k : Memref sig .tc .vmem S12x128 .f32).view.WordExact}
    {α : Type} {Q : α → sProp 𝕄} {kont : PUnit → Prog (TpuEff nD τ sig (Elt F) Λ₀ .tc) α} (W : Waits sig Unit) :
    iprop(cellInv ER (rd m) (κ (recvCell c k)) (recvCell c k) ∗ cred (tallyAt (recvCell c k) () N) ∗ owes (c : Thread nD τ) 0 W
        ∗ atPos ER (recvCell c k) 0 ∅ 0)
      ⊢ iprop(((owes (c : Thread nD τ) 0 (insert (SemLoc.dma (recvS k), ()) W) ∗ atPos ER (recvCell c k) (0 + 1) ∅ 0 ∗ slotPts c k (cl m c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k) mM (slotM k) hsrc hdst) kont) Q) := by
  iintro ⟨#HI, Hc, HO, Hat⟩ Hk
  iapply (Rounds.wp_wait_rest_token 𝒱₀ ER (rd m) (c : Thread nD τ) none (κ := κ (recvCell c k))
      (wpE_waitDma2_eq 𝒱₀ (c : Thread nD τ) none Set.univ (src := mM) (dst := slotM k) (hsrc := hsrc) (hdst := hdst)) (Set.mem_univ _) () (O := 0) (W := W) (R := 0) (m := 0) (T := ∅)
      ((Nat.zero_add _).trans (expect_recv m c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexact HO
  isplitl [Hat]; · iexact Hat
  unfold recvPay; iexact Hp

/-- What signal `j` of `c` hands over: the slot `rev j` of `c`, at whatever it holds. -/
theorem pay_signal (c : Dev nD) (j k : Fin 3) (h : rev j = k) (f : cc0_scratch1.ty.Contents (Elt F)) :
    iprop(slotPts c k f ∗ reached ER (recvCell c k) 0) ⊢ ((rd m).payload (barCell (up c j)) 0 j : sProp 𝕄) := by
  subst h
  rw [payload_bar]; unfold barPay
  rw [dn_up]
  iintro ⟨Hs, Hr⟩
  isplitl [Hs]; · iexists f; iexact Hs
  iexact Hr

/-- What comes with signal `j` at `c`'s own barrier: slot `rev j` of the device transfer `rev j` goes to. -/
theorem pay_barrier (c : Dev nD) (j k : Fin 3) (h : rev j = k) :
    (barPay c j : sProp 𝕄) ⊢ iprop((∃ f, slotPts (up c k) k f) ∗ reached ER (recvCell (up c k) k) 0) := by
  subst h
  unfold barPay
  rw [← dn_rev c (rev j), rev_rev]

/-- Signal `j`, to `n = up c j`: the slot goes in and the unit is no longer owed. -/
theorem wp_signal_j (c n : Dev nD) (j k : Fin 3) (hn : n = up c j) (h : rev j = k) {f : cc0_scratch1.ty.Contents (Elt F)} {nn : ℤ} (hnn : nn = 1)
    {α : Type} {Q : α → sProp 𝕄} {kont : PUnit → Prog (TpuEff nD τ sig (Elt F) Λ₀ .tc) α}
    (X X' : CellTallies nD τ sig Unit) (hX : X' = X + tallyAt (barCell (up c j)) () 1) (W : Waits sig Unit) :
    iprop(records m κ ∗ owes (c : Thread nD τ) X' W ∗ dutyTok ER (barCell (up c j)) 0 j ∗ slotPts c k f ∗ reached ER (recvCell c k) 0)
      ⊢ iprop((owes (c : Thread nD τ) X W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS nn) kont) Q) := by
  subst hn hnn
  iintro ⟨#HR, HO, HtP, Hs, Hr⟩ Hk
  iapply (Rounds.wp_signal 𝒱₀ ER (rd m) (c : Thread nD τ) none (dst := (up c j : Thread nD τ)) (κ := κ (barCell (up c j)))
      (d := j) (by rw [duties_bar]; exact Finset.mem_univ _) (amount_bar m (up c j) j) () X hX) $$ [HO HtP Hs Hr]
  · isplitr; · iapply (inv_at m κ (bar_mem (up c j))); iexact HR
    isplitl [HO]; · iexact HO
    isplitl [HtP]; · iexact HtP
    isplitl [Hs Hr]; · iapply (pay_signal m c j k h f); isplitl [Hs] <;> iassumption
    iapply (reached_at m κ (up c j)); iexact HR
  iintro HO
  iapply Hk; iexact HO

end Steps

/-! ## The body -/

/-- A whole buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (κ : GSem nD τ sig → ℕ) (c : Dev nD) (W : Waits sig Unit) : sProp 𝕄 :=
  iprop((opened m κ c ∗ credits c ∗ levAts L lv) ∗ scratch c ∗ owes (c : Thread nD τ) (O₀ c) W
    ∗ (((c : Thread nD τ).loc cc0_stg0_0) ↦{fullShare} xb m c) ∗ (((c : Thread nD τ).loc cc0_stg1_0) ↦{fullShare} gb m c)
    ∗ (∃ f : Buf (Elt F) ((c : Thread nD τ).loc cc0_stg2_0), ((c : Thread nD τ).loc cc0_stg2_0) ↦{fullShare} f))
/-- What the body ends with. -/
def bodyPost (c : Dev nD) : sProp 𝕄 :=
  iprop((zeros c ∗ semVal (barCell c) 0) ∗ scratch c ∗ (∃ W, owes (c : Thread nD τ) 0 W)
    ∗ (((c : Thread nD τ).loc cc0_stg0_0) ↦{fullShare} xb m c) ∗ (((c : Thread nD τ).loc cc0_stg1_0) ↦{fullShare} gb m c)
    ∗ (((c : Thread nD τ).loc cc0_stg2_0) ↦{fullShare} outAt m c))

/-- The body at the kernel's own buffers and semaphores. -/
abbrev theBody : Prog (TpuEff nD τ sig (Elt F) Λ₀ .tc) PUnit :=
  cc0_body (F := F) xM (Memref.isWhole_whole _) gM (Memref.isWhole_whole _) oM (Memref.isWhole_whole _) mM (Memref.isWhole_whole _)
    cM (Memref.isWhole_whole _) fM (Memref.isWhole_whole _) cc0_scratch3 cc0_scratch4

set_option maxHeartbeats 4000000 in
/-- The body, effect by effect in program order, from what the region hands it to the exchange done. -/
theorem body_run (κ : GSem nD τ sig → ℕ) (c : Dev nD) (W : Waits sig Unit) (Kt : PUnit → sProp 𝕄) :
    iprop(bodyPre m κ c W ∗ (bodyPost m c -∗ Kt ⟨⟩)) ⊢ wp frame (wpE (defs₀ (F := F)) 𝒱₀ c none) Set.univ theBody Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  simp only [dev1_eq c, dev2_eq c, dev3_eq c, slot0, slot1, slot2, send0, send1, send2, recv0, recv1, recv2]
  unfold bodyPre opened credits scratch pays at0
  iintro ⟨⟨⟨⟨#HR, HaB, ⟨⟨⟨Ha0, #Hr0⟩, ⟨Ha1, #Hr1⟩, ⟨Ha2, #Hr2⟩⟩, ⟨⟨Hb0, #Hq0⟩, ⟨Hb1, #Hq1⟩, ⟨Hb2, #Hq2⟩⟩⟩, ⟨⟨HtB0, HtB1, HtB2⟩, ⟨HtS0, HtS1, HtS2⟩, ⟨HtR0, HtR1, HtR2⟩⟩⟩,
      ⟨HcB, Hc0, Hc1, Hc2⟩, #Hlev⟩, ⟨⟨%f0, Hm⟩, ⟨%f1, Hcm⟩, ⟨%f2, Hf⟩⟩, HO, Hx, Hg, ⟨%fo, Ho⟩⟩, Hk⟩
  ihave Hsl := (Entails.of_eq (slots_eq c f1)) $$ Hcm
  icases Hsl with ⟨Hs0, Hs1, Hs2⟩
  -- the three signals, each with the slot the device it goes to is to fill
  iapply (wp_signal_j m κ c (up c 0) 0 2 rfl rfl (f := f1) (nn := (1#32).toInt) rfl (B₂ c) (O₀ c) rfl W) $$ [HO HtB0 Hs2]
  · isplitr; · iexact HR
    isplitl [HO]; · iexact HO
    isplitl [HtB0]; · iexact HtB0
    isplitl [Hs2]; · iexact Hs2
    iexact Hq2
  iintro HO
  iapply (wp_signal_j m κ c (up c 1) 1 1 rfl rfl (f := f1) (nn := (1#32).toInt) rfl (B₁ c) (B₂ c) rfl W) $$ [HO HtB1 Hs1]
  · isplitr; · iexact HR
    isplitl [HO]; · iexact HO
    isplitl [HtB1]; · iexact HtB1
    isplitl [Hs1]; · iexact Hs1
    iexact Hq1
  iintro HO
  iapply (wp_signal_j m κ c (up c 2) 2 0 rfl rfl (f := f1) (nn := (1#32).toInt) rfl (X₃ c) (B₁ c) rfl W) $$ [HO HtB2 Hs0]
  · isplitr; · iexact HR
    isplitl [HO]; · iexact HO
    isplitl [HtB2]; · iexact HtB2
    isplitl [Hs0]; · iexact Hs0
    iexact Hq0
  iintro HO
  -- the block, and the statistics of it
  iapply (wp_load 𝒱₀ (c : Thread nD τ) none Set.univ (m := xM) (Finset.subset_univ _)) $$ Hx; iintro Hx
  rw [read_x]
  iapply (wp_load 𝒱₀ (c : Thread nD τ) none Set.univ (m := mM) (Finset.subset_univ _)) $$ Hm; iintro Hm
  iapply (wp_store 𝒱₀ (c : Thread nD τ) none Set.univ (m := mM) (r := lowR) (Mk := Finset.univ) (Finset.subset_univ _)) $$ Hm; iintro Hm
  iapply (wp_load 𝒱₀ (c : Thread nD τ) none Set.univ (m := mM) (Finset.subset_univ _)) $$ Hm; iintro Hm
  iapply (wp_store 𝒱₀ (c : Thread nD τ) none Set.univ (m := mM) (r := highR) (Mk := Finset.univ) (Finset.subset_univ _)) $$ Hm; iintro Hm
  rw [stores_eq]
  have el : k0_pay6 (F := F) (iota .tc S768x128 32 [1] iota_S768x128_d1_w32) (Scalar.select (Scalar.cmpi .eq 128#32 0#32) 1#32 128#32) k0_pay2 k0_pay3 k0_pay4 k0_pay5 = lanes := rfl
  have et : k0_pay7 (F := F) = rowsT := rfl
  have es : stack2 (k0_pay11 (k0_pay1 (xb m c)) lanes rowsT) (k0_pay12 (k0_pay1 (xb m c)) lanes rowsT) = st m c := rfl
  rw [el, et, es]
  ihave Hst := (st_shares m c).1 $$ Hm
  icases Hst with ⟨Hm, Hp0, Hp1, Hp2⟩
  -- the wait for the three peers' signals: their slots come with it
  iapply (Rounds.wp_wait_rest_token 𝒱₀ ER (rd m) (c : Thread nD τ) none (κ := κ (barCell c))
      (wpE_semWait_eq 𝒱₀ (c : Thread nD τ) none Set.univ) (Set.mem_univ _) () (O := X₃ c) (W := W) (R := 0) (m := 0) (T := ∅)
      (by rw [expect_bar]; decide)) $$ [HcB HO HaB]
  · isplitr; · iapply (inv_at m κ (bar_mem c)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  icases Hp with ⟨Hy0, Hy1, Hy2⟩
  ihave Hy0 := (pay_barrier c 0 2 rfl) $$ Hy0
  ihave Hy1 := (pay_barrier c 1 1 rfl) $$ Hy1
  ihave Hy2 := (pay_barrier c 2 0 rfl) $$ Hy2
  icases Hy0 with ⟨⟨%fc, Hd2⟩, #Hg2⟩
  icases Hy1 with ⟨⟨%fb, Hd1⟩, #Hg1⟩
  icases Hy2 with ⟨⟨%fa, Hd0⟩, #Hg0⟩
  -- the three transfers
  iapply (wp_send_k m κ c _ 0 (dev4_eq c) fa (X₂ c) (X₃ c) rfl _) $$ [HO Hp0 Hd0 HtS0 HtR0]
  · isplitr; · iapply (inv_at m κ (send_mem c 0)); iexact HR
    isplitr; · iapply (inv_at m κ (recv_mem (up c 0) 0)); iexact HR
    isplitl [Hp0]; · iexact Hp0
    isplitl [Hd0]; · iexact Hd0
    isplitl [HO]; · iexact HO
    isplitl [HtS0]; · iexact HtS0
    isplitr; · iexact Hr0
    isplitl [HtR0]; · iexact HtR0
    iexact Hg0
  iintro ⟨HcS0, HO⟩
  iapply (wp_send_k m κ c _ 1 (dev5_eq c) fb (X₁ c) (X₂ c) rfl _) $$ [HO Hp1 Hd1 HtS1 HtR1]
  · isplitr; · iapply (inv_at m κ (send_mem c 1)); iexact HR
    isplitr; · iapply (inv_at m κ (recv_mem (up c 1) 1)); iexact HR
    isplitl [Hp1]; · iexact Hp1
    isplitl [Hd1]; · iexact Hd1
    isplitl [HO]; · iexact HO
    isplitl [HtS1]; · iexact HtS1
    isplitr; · iexact Hr1
    isplitl [HtR1]; · iexact HtR1
    iexact Hg1
  iintro ⟨HcS1, HO⟩
  iapply (wp_send_k m κ c _ 2 (dev6_eq c) fc (0) (X₁ c) (zero_add _).symm _) $$ [HO Hp2 Hd2 HtS2 HtR2]
  · isplitr; · iapply (inv_at m κ (send_mem c 2)); iexact HR
    isplitr; · iapply (inv_at m κ (recv_mem (up c 2) 2)); iexact HR
    isplitl [Hp2]; · iexact Hp2
    isplitl [Hd2]; · iexact Hd2
    isplitl [HO]; · iexact HO
    isplitl [HtS2]; · iexact HtS2
    isplitr; · iexact Hr2
    isplitl [HtR2]; · iexact HtR2
    iexact Hg2
  iintro ⟨HcS2, HO⟩
  -- the two rows of the parameters; the scaled block
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := fM) (Finset.subset_univ _)) $$ Hf; iintro Hf
  iapply (wp_store 𝒱₀ (c : Thread nD τ) none Set.univ (m := fM) (r := xR) (Mk := Finset.univ) (Finset.subset_univ _)) $$ Hf; iintro Hf
  rw [write_f]
  -- the three landings, and the landing buffer whole again
  iapply (wp_landed_k m κ c 0 _) $$ [HO Hc0 Hb0]
  · isplitr; · iapply (inv_at m κ (recv_mem c 0)); iexact HR
    isplitl [Hc0]; · iexact Hc0
    isplitl [HO]; · iexact HO
    iexact Hb0
  iintro ⟨HO, Hb0, Hl0⟩
  iapply (wp_landed_k m κ c 1 _) $$ [HO Hc1 Hb1]
  · isplitr; · iapply (inv_at m κ (recv_mem c 1)); iexact HR
    isplitl [Hc1]; · iexact Hc1
    isplitl [HO]; · iexact HO
    iexact Hb1
  iintro ⟨HO, Hb1, Hl1⟩
  iapply (wp_landed_k m κ c 2 _) $$ [HO Hc2 Hb2]
  · isplitr; · iapply (inv_at m κ (recv_mem c 2)); iexact HR
    isplitl [Hc2]; · iexact Hc2
    isplitl [HO]; · iexact HO
    iexact Hb2
  iintro ⟨HO, Hb2, Hl2⟩
  ihave Hcm := (Entails.of_eq (slots_eq c (cl m c)).symm) $$ [Hl0 Hl1 Hl2]
  · isplitl [Hl0]; · iexact Hl0
    isplitl [Hl1] <;> iassumption
  -- the statistics, own and landed; the scaled block; the result
  iapply (wp_load 𝒱₀ (c : Thread nD τ) none Set.univ (m := mM) (m_set ▸ Finset.subset_univ _)) $$ Hm; iintro Hm
  rw [read_m]
  iapply (wp_load 𝒱₀ (c : Thread nD τ) none Set.univ (m := cM) (Finset.subset_univ _)) $$ Hcm; iintro Hcm
  iapply (wp_load 𝒱₀ (c : Thread nD τ) none Set.univ (m := cM) (Finset.subset_univ _)) $$ Hcm; iintro Hcm
  iapply (wp_load 𝒱₀ (c : Thread nD τ) none Set.univ (m := cM) (Finset.subset_univ _)) $$ Hcm; iintro Hcm
  iapply (wp_load 𝒱₀ (c : Thread nD τ) none Set.univ (m := fM) (Finset.subset_univ _)) $$ Hf; iintro Hf
  rw [read_f]
  iapply (wp_load 𝒱₀ (c : Thread nD τ) none Set.univ (m := oM) (Finset.subset_univ _)) $$ Ho; iintro Ho
  iapply (wp_store 𝒱₀ (c : Thread nD τ) none Set.univ (m := oM) (r := xR) (Mk := Finset.univ) (Finset.subset_univ _)) $$ Ho; iintro Ho
  rw [write_o]
  -- the three source semaphores: the statistics buffer whole again
  iapply (wp_sent_k m κ c 0 _) $$ [HO HcS0 Ha0]
  · isplitr; · iapply (inv_at m κ (send_mem c 0)); iexact HR
    isplitl [HcS0]; · iexact HcS0
    isplitl [HO]; · iexact HO
    iexact Ha0
  iintro ⟨HO, Ha0, Hp0⟩
  iapply (wp_sent_k m κ c 1 _) $$ [HO HcS1 Ha1]
  · isplitr; · iapply (inv_at m κ (send_mem c 1)); iexact HR
    isplitl [HcS1]; · iexact HcS1
    isplitl [HO]; · iexact HO
    iexact Ha1
  iintro ⟨HO, Ha1, Hp1⟩
  iapply (wp_sent_k m κ c 2 _) $$ [HO HcS2 Ha2]
  · isplitr; · iapply (inv_at m κ (send_mem c 2)); iexact HR
    isplitl [HcS2]; · iexact HcS2
    isplitl [HO]; · iexact HO
    iexact Ha2
  iintro ⟨HO, Ha2, Hp2⟩
  ihave Hm := (st_shares m c).2 $$ [Hm Hp0 Hp1 Hp2]
  · isplitl [Hm]; · iexact Hm
    isplitl [Hp0]; · iexact Hp0
    isplitl [Hp1] <;> iassumption
  rw [wp_ret]
  imod (close m (κ (barCell c)) (barCell c)) $$ [HaB] with HzHaB
  · isplitr; · iapply (inv_at m κ (bar_mem c)); iexact HR
    iexact HaB
  imod (close m (κ (sendCell c 0)) (sendCell c 0)) $$ [Ha0] with HzHa0
  · isplitr; · iapply (inv_at m κ (send_mem c 0)); iexact HR
    iexact Ha0
  imod (close m (κ (sendCell c 1)) (sendCell c 1)) $$ [Ha1] with HzHa1
  · isplitr; · iapply (inv_at m κ (send_mem c 1)); iexact HR
    iexact Ha1
  imod (close m (κ (sendCell c 2)) (sendCell c 2)) $$ [Ha2] with HzHa2
  · isplitr; · iapply (inv_at m κ (send_mem c 2)); iexact HR
    iexact Ha2
  imod (close m (κ (recvCell c 0)) (recvCell c 0)) $$ [Hb0] with HzHb0
  · isplitr; · iapply (inv_at m κ (recv_mem c 0)); iexact HR
    iexact Hb0
  imod (close m (κ (recvCell c 1)) (recvCell c 1)) $$ [Hb1] with HzHb1
  · isplitr; · iapply (inv_at m κ (recv_mem c 1)); iexact HR
    iexact Hb1
  imod (close m (κ (recvCell c 2)) (recvCell c 2)) $$ [Hb2] with HzHb2
  · isplitr; · iapply (inv_at m κ (recv_mem c 2)); iexact HR
    iexact Hb2
  imodintro
  iapply Hk
  unfold bodyPost zeros scratch
  isplitl [HzHaB HzHa0 HzHa1 HzHa2 HzHb0 HzHb1 HzHb2]
  · isplitr [HzHaB]
    · isplitl [HzHa0 HzHa1 HzHa2]
      · isplitl [HzHa0]; · iexact HzHa0
        isplitl [HzHa1] <;> iassumption
      · isplitl [HzHb0]; · iexact HzHb0
        isplitl [HzHb1] <;> iassumption
    · iexact HzHaB
  isplitl [Hm Hcm Hf]
  · isplitl [Hm]; · iexists _; iexact Hm
    isplitl [Hcm]; · iexists _; iexact Hcm
    iexists _; iexact Hf
  isplitl [HO]; · iexists _; iexact HO
  isplitl [Hx]; · iexact Hx
  isplitl [Hg]; · iexact Hg
  iexact Ho

end Cert.KernelIdeal.Talk

end
-- ==== Proof.Run.lean ====
/- The region over the body: its obligation, its proof data, and what it is entered with and leaves. -/
module

public import proofs.«01_k».proof.Proof.Body
public import Idealize.ShloMosaic.Lib.Pipeline.ValueKit.Geometry

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The last point is the one after the only step. -/
theorem last_N : Fin.last cfg0.N = (t0_0 : Fin cfg0.N).succ := Fin.ext N_0

/-- What a device owes, as the region takes it. -/
theorem owes_in (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h, show (dat m c).recorded t = Set.univ from rfl]
  iintro HO; iexists W; isplitr; · ipureintro; exact fun _ _ => Or.inl trivial
  iexact HO
/-- What a device owes, as the region gives it back. -/
theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩; iexists W; iexact HO

/-- The obligation's start, spelt out. -/
def obPre (c : Dev nD) : sProp 𝕄 :=
  iprop(Φ₀ m c ∗ (dat m c).owesAt () t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
/-- The obligation's end, spelt out. -/
def obPost (c : Dev nD) : sProp 𝕄 :=
  iprop(Φ₁ c ∗ (dat m c).owesAt () t0_0.succ ∗ stg c cc0_stg0_0 (xb m c) ∗ stg c cc0_stg1_0 (gb m c) ∗ stg c cc0_stg2_0 (outAt m c))

set_option maxHeartbeats 1000000 in
/-- The pipeline's obligation on the body, from its run. -/
theorem body_ob (c : Dev nD) : BodyObligation (dat (F := F) m c) (defs₀ (F := F)) 𝒱₀ () Set.univ := fun t => by
  rw [fin_N0 t]
  rw [bigSep_W0, bigSep_W0]
  simp only [owns_whole_eq]
  show obPre m c ⊢ wp frame (wpE (defs₀ (F := F)) 𝒱₀ c none) Set.univ theBody (fun _ => obPost m c)
  unfold obPre Φ₀ Xk
  iintro ⟨⟨⟨⟨%κ, Hg⟩, Hcr, Hlev⟩, Hscr, Hreg⟩, Ho, ⟨%d0, %g0, %hg0, Hx⟩, ⟨%d1, %g1, %hg1, Hg1⟩, ⟨%d2, %g2, %hg2, Hout⟩⟩
  have hx : g0 = xb m c := by rw [hg0]; unfold Dat.before; rw [if_pos (fetch0_0 t0_0)]; rfl
  have hg : g1 = gb m c := by rw [hg1]; unfold Dat.before; rw [if_pos (fetch0_1 t0_0)]; rfl
  subst hx hg
  ihave Ho' := (owes_out m c t0_0.castSucc (O₀ c) rfl) $$ Ho
  icases Ho' with ⟨%W, HO⟩
  iapply (body_run m κ c W fun _ => obPost m c)
  isplitr [Hreg]
  · unfold bodyPre
    isplitl [Hg Hcr Hlev]
    · isplitl [Hg]; · iexact Hg
      isplitl [Hcr] <;> iassumption
    isplitl [Hscr]; · iexact Hscr
    isplitl [HO]; · iexact HO
    isplitl [Hx]; · iexact Hx
    isplitl [Hg1]; · iexact Hg1
    iexists g2; iexact Hout
  unfold bodyPost obPost Φ₁
  iintro ⟨Hz, Hscr, ⟨%W', HO⟩, Hx, Hg, Ho⟩
  isplitl [Hz Hscr Hreg]
  · isplitl [Hz]; · iexact Hz
    isplitl [Hscr] <;> iassumption
  isplitl [HO]; · iapply (owes_in m c t0_0.succ 0 rfl W'); iexact HO
  isplitl [Hx]
  · iexists _
    isplitr
    · ipureintro; rfl
    iexact Hx
  isplitl [Hg]
  · iexists _
    isplitr
    · ipureintro; rfl
    iexact Hg
  iexists _
  isplitr
  · ipureintro; rfl
  iexact Ho

/-! ## The region -/

/-- The region's side conditions. -/
abbrev adm : (p : Fin 1) → (pcfgs (F := F) p).Adm := fun p => (cfgs p).toPCfg_adm
/-- The proof data of the only region. -/
def pdats : (p : Fin 1) → (c : Dev nD) → Dat τ (Elt F) Unit ℕ UU ℕ (Pipeline.pin (pcfgs (F := F)) adm p) c
  | 0 => dat m

/-- A device's buffers at launch. -/
abbrev V₀ (c : Dev nD) : Valuation τ sig (Elt F) := fun b => m (c, b)
/-- A device's buffers after the host operations. -/
abbrev V₁ (c : Dev nD) : Valuation τ sig (Elt F) := StableHlo.after hostOps0 (V₀ m c)
/-- The result array's buffer. -/
abbrev outRef : DevRef τ sig := Proc.devRef .tc main_v4
/-- A device's buffers after the region. -/
def V₂ (c : Dev nD) : Valuation τ sig (Elt F) := Function.update (V₁ m c) outRef ((dat m c).arrAt 2 cfg0.N)

/-- Every window's array is owned whole. -/
theorem share_eq (c : Dev nD) (w : Fin cfg0.W) : (dat m c).share w = fullShare := by unfold Dat.share; split <;> rfl

/-- The unscoped buffers no window is of. -/
abbrev arrs : Finset (DevRef τ sig) := Pipeline.arrRefs (τ := τ) spec0
/-- The buffers beside the windows' arrays. -/
abbrev others : Finset (DevRef τ sig) := Pipeline.ucRefs τ sig \ arrs
/-- The windows' arrays are among the buffers of the launch. -/
theorem arrs_sub : arrs ⊆ Pipeline.ucRefs τ sig := by decide

/-- The kernel's own semaphores at zero, spelt out. -/
theorem own_eq (c : Dev nD) : (Pipeline.ownSems0 osem c : sProp 𝕄) = iprop(zeros c) := by
  unfold Pipeline.ownSems0 zeros
  rw [bigSep_univ_sum, Ring.bigSep_fin3, Ring.bigSep_fin3]
  rfl

/-- What of the protocol comes from the launch. -/
def Tk (c : Dev nD) : sProp 𝕄 := iprop((∃ κ, records m κ ∗ linear c) ∗ credits c)
/-- What of the protocol is left after the region: the barrier at zero. -/
def Yk (c : Dev nD) : sProp 𝕄 := semVal (barCell c) 0

/-- The region's start: a device opens the cells of its own semaphores. -/
theorem hopen (c : Dev nD) : iprop(Tk m c ∗ Pipeline.ownSems0 osem c ∗ levAts L lv) ⊢ (|={Set.univ}=> Xk m c : sProp 𝕄) := by
  rw [own_eq]
  unfold Tk Xk linear zeros
  iintro ⟨⟨⟨%κ, #HR, HaB, ⟨⟨Ho0, Ho1, Ho2⟩, ⟨Hl0, Hl1, Hl2⟩⟩, Hp⟩, Hcr⟩, ⟨⟨Hs0, Hs1, Hs2⟩, ⟨Hr0, Hr1, Hr2⟩⟩, #Hlev⟩
  imod (opn m κ (sendCell c 0) (send_mem c 0)) $$ [Ho0 Hs0] with Ha0
  · isplitr; · iexact HR
    isplitl [Ho0] <;> iassumption
  imod (opn m κ (sendCell c 1) (send_mem c 1)) $$ [Ho1 Hs1] with Ha1
  · isplitr; · iexact HR
    isplitl [Ho1] <;> iassumption
  imod (opn m κ (sendCell c 2) (send_mem c 2)) $$ [Ho2 Hs2] with Ha2
  · isplitr; · iexact HR
    isplitl [Ho2] <;> iassumption
  imod (opn m κ (recvCell c 0) (recv_mem c 0)) $$ [Hl0 Hr0] with Hb0
  · isplitr; · iexact HR
    isplitl [Hl0] <;> iassumption
  imod (opn m κ (recvCell c 1) (recv_mem c 1)) $$ [Hl1 Hr1] with Hb1
  · isplitr; · iexact HR
    isplitl [Hl1] <;> iassumption
  imod (opn m κ (recvCell c 2) (recv_mem c 2)) $$ [Hl2 Hr2] with Hb2
  · isplitr; · iexact HR
    isplitl [Hl2] <;> iassumption
  imodintro
  isplitr [Hcr]
  · iexists κ
    unfold opened
    isplitr; · iexact HR
    isplitl [HaB]; · iexact HaB
    isplitr [Hp]
    · isplitl [Ha0 Ha1 Ha2]
      · isplitl [Ha0]; · iexact Ha0
        isplitl [Ha1] <;> iassumption
      · isplitl [Hb0]; · iexact Hb0
        isplitl [Hb1] <;> iassumption
    iexact Hp
  isplitl [Hcr]; · iexact Hcr
  iexact Hlev

/-- Holding no buffer is holding nothing. -/
theorem held_none (c : Dev nD) (W : Valuation τ sig (Elt F)) : (StableHlo.held (c : Thread nD τ) ∅ W : sProp 𝕄) = iprop(emp) := by
  unfold StableHlo.held; exact BI.bigSep_empty

/-- The region's scratch buffers, spelt out. -/
theorem scoped_eq (c : Dev nD) :
    (Pipeline.scopedRest (Ix := Unit) (Name := ℕ) (U := UU) (Lvl := ℕ) (Val := Elt F) (Pipeline.pin (pcfgs (F := F)) adm 0).spec c : sProp 𝕄) = iprop(scratch c) :=
  scopedRest0_eq c

/-- What the region provides is what the body is given. -/
theorem hin (c : Dev nD) :
    iprop(Pipeline.scopedRest (Pipeline.pin (pcfgs (F := F)) adm 0).spec c ∗ (∃ r, prngReg c r) ∗ StableHlo.held (c.tc : Thread nD τ) ∅ (V₁ m c) ∗ Xk m c)
      ⊢ (pdats m 0 c).Φ 0 := by
  rw [show (pdats m 0 c).Φ 0 = Φ₀ m c from rfl, scoped_eq]
  unfold Φ₀
  iintro ⟨Hs, Hp, -, HX⟩
  isplitl [HX]; · iexact HX
  isplitl [Hs] <;> iassumption

/-- What the body leaves is what the region takes back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ Yk c) := by
  rw [show (pdats m 0 c).Φ (Fin.last _) = (dat m c).Φ (Fin.last cfg0.N) from rfl, last_N,
    show (dat m c).Φ (t0_0 : Fin cfg0.N).succ = Φ₁ c from rfl, own_eq, scoped_eq, held_none]
  unfold Φ₁ Yk
  iintro ⟨⟨Hz, Hb⟩, Hs, Hp⟩
  isplitl [Hs]; · iexact Hs
  isplitl [Hp]; · iexact Hp
  isplitr; · iempintro
  isplitl [Hz] <;> iassumption

/-- The six semaphores are the region's own and differ from the staging's. -/
theorem own_facts : Pipeline.OwnSemFacts cfg0.spec osem := by decide

/-- Nothing is owed after the region. -/
theorem owed_last (c : Dev nD) : (pdats (F := F) m 0 c).owed (Fin.last _) = 0 := by
  show (dat m c).owed (Fin.last cfg0.N) = 0
  rw [last_N]; rfl

/-- The staging semaphores have their index. -/
theorem staging_mem (c : Dev nD) (w : Fin cfg0.W) (s : Fin (cfg0.win w).nbuf) : () ∈ L ((c : Thread nD τ), .dma ((cfg0.win w).sem s)) := mem_L _ _ _
/-- The staging semaphores come below the landings' in number. -/
theorem staging_lv (w : Fin 3) : ∀ s : Fin (spec0 w).nbuf, ((spec0 w).sem s).val < 6 := by revert w; decide

/-- Whatever is owed lies above the level of the staging. -/
theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have h' : 0 < O₀ c g i := by
    obtain ⟨n, hn⟩ := t
    cases n with
    | zero => exact h
    | succ n => exact absurd (show 0 < (0 : CellTallies nD τ sig Unit) g i from h) (Nat.lt_irrefl 0)
  rcases O₀_pos h' with ⟨k, rfl⟩ | ⟨k, rfl⟩
  · exact ⟨mem_L _ _ _, by rw [lv_recv]; decide⟩
  · exact ⟨mem_L _ _ _, by rw [lv_bar]; decide⟩

/-- The region leaves every buffer but the result's. -/
theorem V₂_of_ne (c : Dev nD) (b : DevRef τ sig) (h : b ≠ outRef) : V₂ m c b = V₁ m c b := Function.update_of_ne h _ _
/-- The region leaves the result array at what the proof data say. -/
theorem V₂_out (c : Dev nD) : V₂ m c outRef = (dat m c).arrAt 2 cfg0.N := Function.update_self _ _ _

/-- The windows' arrays before the region. -/
theorem arr_first (c : Dev nD) (w : Fin 3) : (dat m c).arrAt w 0 = V₁ m c (Proc.devRef .tc (Pipeline.arrRef spec0 w)) := rfl
/-- The windows' arrays after the region. -/
theorem arr_last (c : Dev nD) : ∀ w : Fin 3, (dat m c).arrAt w cfg0.N = V₂ m c (Proc.devRef .tc (Pipeline.arrRef spec0 w))
  | 0 => ((dat m c).arrAt_in 0 rfl _).trans (V₂_of_ne m c (Proc.devRef .tc (Pipeline.arrRef spec0 0)) (by decide)).symm
  | 1 => ((dat m c).arrAt_in 1 rfl _).trans (V₂_of_ne m c (Proc.devRef .tc (Pipeline.arrRef spec0 1)) (by decide)).symm
  | 2 => (V₂_out m c).symm

/-- The result is a window's array. -/
theorem outRef_arr : outRef ∈ arrs := by decide

set_option backward.isDefEq.respectTransparency.types false in
/-- The region as the launch takes it. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) launch0.toP rfl (fun c => (body_ob m c).loose)
    (fun _ => 0) O₀ (fun _ => (zero_add _).symm) (owed_last m) (fun _ => rfl) (share_eq m)
    (V₁ m) (V₂ m) (fun c b hb => V₂_of_ne m c b fun e => (Finset.mem_sdiff.mp (Finset.mem_sdiff.mp hb).1).2 (e ▸ outRef_arr))
    (Tk m) Yk (Xk m) Yk (hopen m) (hin m) (hout m)
    (fun c => by iintro H; imodintro; iexact H)
    (fun _ => 0)
    ⟨fun c w s => staging_mem c w s, fun c w s => le_of_eq (if_neg (Nat.not_le_of_lt (staging_lv w s))), fun c t g i h => cutD m c t g i h⟩
    (fun _ => iprop(emp))
    (fun c w => arr_first m c w) (fun c w => arr_last m c w)

/-- What rides beside the buffers up to the region. -/
def R (c : Dev nD) : sProp 𝕄 := iprop(Tk m c ∗ (∃ r, prngReg c r) ∗ ∃ W, owes (c : Thread nD τ) (O₀ c) W)

/-- What the host operations leave is what the region starts from. -/
theorem reg_pre (c : Dev nD) : iprop(StableHlo.held (c : Thread nD τ) (Pipeline.ucRefs τ sig) (V₁ m c) ∗ R m c) ⊢ (reg m).pre c := by
  show _ ⊢ iprop(StableHlo.held (c.tc : Thread nD τ) arrs (V₁ m c) ∗ (∃ r, prngReg c r)
    ∗ (StableHlo.held (c.tc : Thread nD τ) others (V₁ m c) ∗ emp) ∗ Tk m c ∗ ∃ Wd, owes (c : Thread nD τ) (0 + O₀ c) Wd)
  rw [StableHlo.held_sub_split (c.tc : Thread nD τ) arrs_sub, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the region leaves: the buffers, the barrier at zero and nothing owed. -/
theorem reg_post (c : Dev nD) : (reg m).post c
    ⊢ iprop((StableHlo.held (c : Thread nD τ) (Pipeline.ucRefs τ sig) (V₂ m c) ∗ semVal (barCell c) 0)
        ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c.tc : Thread nD τ) arrs_sub (V₂ m c)]
  unfold Yk
  iintro ⟨Ha, -, ⟨Hr, -⟩, Hb, HO⟩
  isplitr [HO]
  · isplitl [Ha Hr]
    · isplitl [Ha] <;> iassumption
    iexact Hb
  iexact HO

/-- The host operations as the launch takes them. -/
def host : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (V₀ m) (R m)

/-- The program's two parts. -/
def segs : List (Pipeline.Seg (pcfgs (F := F)) adm (pdats m) () defs₀ 𝒱₀ L lv) := [.host (host m), .region (reg m)]

/-- The program is the host operations and then the region. -/
theorem main_eq (c : Dev nD) : main (F := F) c = Pipeline.Seg.run (segs m) :=
  main_segs adm (pdats m) () 𝒱₀ L lv (host m) (reg m) rfl c

end Cert.KernelIdeal.Talk

end
-- ==== Proof.Start.lean ====
/- The launch: the tokens and the credit dealt out to the devices, and the whole program run. -/
module

public import proofs.«01_k».proof.Proof.Run

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- The nine duties on a device's cells: the semaphore of each. -/
abbrev tsem : Fin 3 ⊕ (Fin 3 ⊕ Fin 3) → SemLoc sig := fun | .inl _ => .reg barS | .inr k => osem k
/-- Which duty of its cell each of the nine is. -/
abbrev tduty : Fin 3 ⊕ (Fin 3 ⊕ Fin 3) → Fin 3 := fun | .inl k => k | .inr _ => 0
/-- The nine duties are different. -/
theorem tk_inj : Function.Injective fun k => (tsem k, tduty k) := by decide
/-- The tokens of all duties of all devices. -/
def allToks : Finset (GSem nD τ sig × ℕ × Fin 3) :=
  Finset.univ.map ⟨fun ck : Dev nD × (Fin 3 ⊕ (Fin 3 ⊕ Fin 3)) => (((ck.1 : Thread nD τ), tsem ck.2), 0, tduty ck.2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

/-- No barrier is one of the kernel's own semaphores. -/
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The tokens of a device's own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- All tokens, device by device. -/
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_sum, bigSep_univ_sum, Ring.bigSep_fin3, Ring.bigSep_fin3, Ring.bigSep_fin3]
  rfl

/-- Each barrier and landing token handed to the device that pays it. -/
theorem toks_around : (bigSep Finset.univ fun c : Dev nD => (toks c : sProp 𝕄)) ⊢ bigSep Finset.univ fun c : Dev nD => pays c := by
  have hb (k : Fin 3) := bigSep_univ_equiv (shift k) (fun c : Dev nD => (dutyTok ER (barCell c) 0 k : sProp 𝕄))
  have hr (k : Fin 3) := bigSep_univ_equiv (shift k) (fun c : Dev nD => (dutyTok ER (recvCell c k) 0 0 : sProp 𝕄))
  unfold toks pays
  simp only [bigSep_sep']
  rw [hb 0, hb 1, hb 2, hr 0, hr 1, hr 2]
  exact BI.Entails.refl _

/-! ## The launch credit -/

/-- Two landing semaphores of a device are different. -/
theorem recv_ne (k k' : Fin 3) (h : k ≠ k') : (.dma (recvS k) : SemLoc sig) ≠ .dma (recvS k') := by
  revert k k'; decide
/-- No landing semaphore is the barrier. -/
theorem recv_ne_bar (k : Fin 3) : (.dma (recvS k) : SemLoc sig) ≠ .reg barS := fun h => by cases h

/-- Signal `k` counts at the barrier of the device it goes to. -/
theorem at_bar (d c : Dev nD) (k : Fin 3) : (tallyAt (barCell (up d k)) () 1 : CellTallies nD τ sig Unit) (barCell c) () = if d = dn c k then 1 else 0 := by
  rw [tallyAt_apply]
  by_cases h : d = dn c k
  · subst h; rw [up_dn, if_pos ⟨rfl, rfl⟩, if_pos rfl]
  · rw [if_neg (fun ⟨h1, _⟩ => h (by rw [show c = up d k from congrArg (fun g : GSem nD τ sig => g.1.1) h1, dn_up])), if_neg h]
/-- Transfer `k` counts at the landing of the device it goes to. -/
theorem at_recv (d c : Dev nD) (k : Fin 3) : (tallyAt (recvCell (up d k) k) () N : CellTallies nD τ sig Unit) (recvCell c k) () = if d = dn c k then N else 0 := by
  rw [tallyAt_apply]
  by_cases h : d = dn c k
  · subst h; rw [up_dn, if_pos ⟨rfl, rfl⟩, if_pos rfl]
  · rw [if_neg (fun ⟨h1, _⟩ => h (by rw [show c = up d k from congrArg (fun g : GSem nD τ sig => g.1.1) h1, dn_up])), if_neg h]
/-- A transfer counts at no other slot's landing. -/
theorem at_recv_ne (d c : Dev nD) (k k' : Fin 3) (h : k' ≠ k) : (tallyAt (recvCell d k) () N : CellTallies nD τ sig Unit) (recvCell c k') () = 0 := by
  rw [tallyAt_ne_cell fun e => recv_ne _ _ h (congrArg Prod.snd e)]; rfl
/-- A transfer counts at no barrier. -/
theorem at_recv_bar (d c : Dev nD) (k : Fin 3) : (tallyAt (recvCell d k) () N : CellTallies nD τ sig Unit) (barCell c) () = 0 := by
  rw [tallyAt_ne_cell fun e => recv_ne_bar k (congrArg Prod.snd e).symm]; rfl
/-- A signal counts at no landing. -/
theorem at_bar_recv (d c : Dev nD) (k : Fin 3) : (tallyAt (barCell d) () 1 : CellTallies nD τ sig Unit) (recvCell c k) () = 0 := by
  rw [tallyAt_ne_cell fun e => recv_ne_bar k (congrArg Prod.snd e)]; rfl

/-- One device alone is `k + 1` places before `c`. -/
theorem one_of (c : Dev nD) (k : Fin 3) (n : ℕ) : (∑ d : Dev nD, if d = dn c k then n else 0) = n := by
  rw [Finset.sum_ite_eq' Finset.univ (dn c k) fun _ => n, if_pos (Finset.mem_univ _)]

/-- What device `d` owes to `c`'s barrier at launch. -/
theorem owed_bar (d c : Dev nD) : O₀ d (barCell c) () = (if d = dn c 2 then 1 else 0) + (if d = dn c 1 then 1 else 0) + (if d = dn c 0 then 1 else 0) := by
  unfold O₀ B₂ B₁ X₃ X₂ X₁
  simp only [Pi.add_apply, Finsupp.add_apply, at_bar]
  rw [at_recv_bar, at_recv_bar, at_recv_bar]
  simp only [Nat.zero_add]
/-- What device `d` owes to a landing of `c` at launch. -/
theorem owed_recv (d c : Dev nD) (k : Fin 3) : O₀ d (recvCell c k) () = if d = dn c k then N else 0 := by
  unfold O₀ B₂ B₁ X₃ X₂ X₁
  simp only [Pi.add_apply, Finsupp.add_apply, at_bar_recv, Nat.add_zero]
  fin_cases k
  · exact (congrArg₂ (· + ·) (congrArg₂ (· + ·) (at_recv_ne _ _ _ _ (by decide)) (at_recv_ne _ _ _ _ (by decide))) (at_recv d c 0)).trans (Nat.zero_add _)
  · exact (congrArg₂ (· + ·) (congrArg₂ (· + ·) (at_recv_ne _ _ _ _ (by decide)) (at_recv d c 1)) (at_recv_ne _ _ _ _ (by decide))).trans (Nat.zero_add _)
  · exact congrArg₂ (· + ·) (congrArg₂ (· + ·) (at_recv d c 2) (at_recv_ne _ _ _ _ (by decide))) (at_recv_ne _ _ _ _ (by decide))

/-- The devices together owe three units to each barrier. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_add_distrib, Finset.sum_add_distrib, one_of, one_of, one_of]
/-- The devices together owe one transfer to each landing. -/
theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, one_of]

/-- The launch gives each device the credit that it waits with. -/
theorem creds (c : Dev nD) : (Pipeline.launchCred O₀ c : sProp 𝕄) ⊢ credits c := by
  unfold Pipeline.launchCred credits
  rw [← launch_bar, ← launch_recv, ← launch_recv, ← launch_recv]
  refine (bigSep_subset (Finset.subset_univ ({.reg barS, .dma (recvS 0), .dma (recvS 1), .dma (recvS 2)} : Finset (SemLoc sig)))).trans ?_
  rw [bigSep_eq_bigSepL_of_eq [.reg barS, .dma (recvS 0), .dma (recvS 1), .dma (recvS 2)] (by decide) (by decide)]
  exact BI.Entails.refl _

/-! ## The run -/

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's part, all of it with device 0 until it is dealt out. -/
def G (c : Dev nD) : sProp 𝕄 := if c = 0 then BI.own (ER (launchOf barCells scCells allToks)) else iprop(emp)
/-- Its parts over the devices are the whole. -/
theorem bigSep_G : bigSep Finset.univ (G (F := F)) = BI.own (ER (launchOf barCells scCells allToks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What a device starts its program from. -/
abbrev T₀ (c : Dev nD) : sProp 𝕄 := iprop(StableHlo.held (c.tc : Thread nD τ) (Pipeline.ucRefs τ sig) (V₀ m c) ∗ R m c)
/-- What a device ends its program with. -/
abbrev Tₙ (c : Dev nD) : sProp 𝕄 := iprop(StableHlo.held (c.tc : Thread nD τ) (Pipeline.ucRefs τ sig) (V₂ m c) ∗ semVal (barCell c) 0)

/-- What a device holds at launch beside the protocol's ghost state. -/
def bundle (c : Dev nD) : sProp 𝕄 :=
  iprop(StableHlo.held (c.tc : Thread nD τ) (Pipeline.ucRefs τ sig) (V₀ m c) ∗ credits c ∗ owes (c : Thread nD τ) (O₀ c) ∅ ∗ ∃ r, prngReg c r)

/-- A device's start, from the records, what it is dealt and what it holds. -/
theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

/-- The barrier is the only semaphore outside the region. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch gives a device, sorted. -/
theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c.tc : Thread nD τ) (Pipeline.ucRefs τ sig) (V₀ m c)
      from Pipeline.unscopedBufs_held c (V₀ m c), unscopedSems0_eq]
  unfold bundle
  iintro ⟨Hh, Hus, HO, Hcr, Hp, HG⟩
  isplitl [Hh HO Hcr Hp]
  · isplitl [Hh]; · iexact Hh
    isplitl [Hcr]; · iapply (creds (F := F) c) $$ Hcr
    isplitl [HO]; · iexact HO
    iexists (ρ c); iexact Hp
  isplitl [Hus] <;> iassumption

/-- The launch sets up the exchange and deals it out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => iprop((openTok ER (sendCell c 0) ∗ openTok ER (sendCell c 1) ∗ openTok ER (sendCell c 2))
        ∗ (openTok ER (recvCell c 0) ∗ openTok ER (recvCell c 1) ∗ openTok ER (recvCell c 2)))) :=
    Entails.of_eq (by
      rw [bigSep_map, bigSep_univ_prod]
      refine bigSep_congr fun c _ => ?_
      rw [bigSep_univ_sum, Ring.bigSep_fin3, Ring.bigSep_fin3]
      rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_split m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (bigSep_G (F := F))) $$ HG
  imod (Rounds.fund_launch ER (rd m) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply ho $$ Hopen
    iapply (toks_around (F := F))
    iapply (Entails.of_eq (toks_eq (F := F))) $$ Htok
  · iexact HB

/-- The buffers the claims speak of, taken out of all of a device's. -/
abbrev shown : Finset (DevRef τ sig) := {Proc.devRef .tc main_arg0, Proc.devRef .tc main_arg1, Proc.devRef .tc main_arg2, outRef}
/-- They are among the buffers of the launch. -/
theorem shown_sub : shown ⊆ Pipeline.ucRefs τ sig := by decide
/-- Holding them, spelt out. -/
theorem held_shown (c : Dev nD) (W : Valuation τ sig (Elt F)) : (StableHlo.held (c.tc : Thread nD τ) shown W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_v4) ↦{fullShare} W outRef)) := by
  unfold StableHlo.held
  rw [bigSep_eq_bigSepL_of_eq [Proc.devRef .tc main_arg0, Proc.devRef .tc main_arg1, Proc.devRef .tc main_arg2, outRef] (by decide) (by decide)]
  rfl

/-- A semaphore outside the region is the barrier. -/
theorem unscoped_eq : ∀ sm : SemLoc sig, sm.isScoped .tc = false → sm = .reg barS := by decide

set_option backward.isDefEq.respectTransparency.types false in
/-- The program run from any memory with every semaphore at zero: it ends, with the arguments as they were, the result
    array at what the region's proof data say, and every semaphore at zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v4) = (dat m c).arrAt 2 cfg0.N) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_v4) = V₂ m c outRef)
      ∧ s.sem (barCell c) = 0)
    (hfin := fun c s' => by
      dsimp only [Tₙ]; rw [StableHlo.held_sub_split (c.tc : Thread nD τ) shown_sub, held_shown]
      iintro ⟨⟨⟨⟨H0, H1, H2, H4⟩, -⟩, Hb0⟩, HSI⟩
      icombine HSI H0 gives %h0
      icombine HSI H1 gives %h1
      icombine HSI H2 gives %h2
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h4⟩, by simpa using hb⟩
      iexact HSI)
    (hQ := fun s h hs => ⟨fun c => by
        obtain ⟨⟨h0, h1, h2, h4⟩, -⟩ := h c
        exact ⟨h0.trans ((V₂_of_ne m c _ (by decide)).trans (V_main_arg0 m c)), h1.trans ((V₂_of_ne m c _ (by decide)).trans (V_main_arg1 m c)),
          h2.trans ((V₂_of_ne m c _ (by decide)).trans (V_main_arg2 m c)), h4.trans (V₂_out m c)⟩,
      sem_eq_zero hs fun c sm hsm => by
        obtain rfl := unscoped_eq sm hsm
        exact (h c).2⟩)

end Cert.KernelIdeal.Talk

end
-- ==== Proof.Frames.lean ====
/- The frame claims: the two kernels' and the reference's, each from its run with the values dropped. -/
module

public import proofs.«01_k».proof.Defs
public import proofs.«01_k».proof.Proof.Start
public import proofs.«01_k».proof.Proof.KStart
public import proofs.«01_k».proof.Proof.Gen.ReferenceIdeal.Run

@[expose] public section

noncomputable section

namespace Cert.Proof

open Idealize.ShloMosaic Idealize.SL.Sem

/-- The kernel as printed runs, leaves its arguments alone and every semaphore at zero. -/
theorem frame_kernel : Cert.quiescent_Kernel := fun m g _ =>
  (θ_run _ _ _).mono (fun _ h => ⟨fun c => ⟨(h.1 c).1, (h.1 c).2.1, (h.1 c).2.2.1⟩, h.2⟩) (Cert.Kernel.Talk.run_main (F := Bits) m g)

/-- The same of the kernel over the extended reals. -/
theorem frame_ideal : Cert.quiescent_KernelIdeal := fun m g _ =>
  (θ_run _ _ _).mono (fun _ h => ⟨fun c => ⟨(h.1 c).1, (h.1 c).2.1, (h.1 c).2.2.1⟩, h.2⟩) (Cert.KernelIdeal.Talk.run_main (F := Ideal) m g)

/-- The same of the reference, which has no semaphore at all. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

end Cert.Proof

end
-- ==== Proof.Masks.lean ====
/- The constant masks of the pack and the unpack at an index, and what a sum through them picks out. -/
module

public import proofs.«01_k».proof.Proof.Proto
public import Idealize.ShloMosaic.Lib.Pointwise
public import Idealize.ShloMosaic.Lib.Routing.Words

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A comparison of two words for equality, widened and made a float: one where the numbers agree, zero elsewhere. -/
theorem indicator_word {a b : Nat} (ha : a < 2 ^ 32) (hb : b < 2 ^ 32) :
    (FloatOps.sitofp FTy.f32 (BitVec.setWidth 32 (IntOp.cmpi .eq (BitVec.ofNat 32 a) (BitVec.ofNat 32 b))) : Ideal .f32)
      = if a = b then 1 else 0 := by
  have key : (BitVec.ofNat 32 a = BitVec.ofNat 32 b) ↔ a = b := by
    rw [← BitVec.toNat_inj, BitVec.toNat_ofNat, BitVec.toNat_ofNat, Nat.mod_eq_of_lt ha, Nat.mod_eq_of_lt hb]
  show (((BitVec.setWidth 32 (IntOp.cmpi .eq (BitVec.ofNat 32 a) (BitVec.ofNat 32 b))).toInt : ℝ) : EReal) = _
  by_cases h : a = b
  · subst h
    simp [IntOp.cmpi]
  · have e : (BitVec.ofNat 32 a == BitVec.ofNat 32 b) = false := beq_eq_false_iff_ne.mpr fun e => h (key.mp e)
    simp [IntOp.cmpi, e, h]

/-- The word the lane mask computes from a row number: its remainder by 128. -/
theorem column_word : ∀ i : Fin 768,
    (Scalar.select
            (IntOp.andi
              (IntOp.xori
                (IntOp.cmpi CmpIPredicate.slt
                  (IntOp.remsi ArithUnit.vector (BitVec.ofNat 32 ↑i)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑i)
                  (Scalar.select (Scalar.cmpi CmpIPredicate.eq 128#32 0#32) 1#32 128#32))
                0#32))
            (IntOp.addi
              (IntOp.remsi ArithUnit.vector (BitVec.ofNat 32 ↑i)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 ↑i)
              (Scalar.select (Scalar.cmpi CmpIPredicate.eq 128#32 0#32) 1#32 128#32))) = BitVec.ofNat 32 (i.val % 128) := by
  decide +kernel

/-- The word the row selector computes from a row number: its quotient by 128. -/
theorem row_word : ∀ i : Fin 768,
    (Scalar.select
            (IntOp.andi
              (IntOp.cmpi CmpIPredicate.ne
                (IntOp.subi (BitVec.setWidth 32 (IntOp.cmpi CmpIPredicate.sgt (BitVec.ofNat 32 ↑i) 0#32))
                  (BitVec.setWidth 32 (IntOp.cmpi CmpIPredicate.slt (BitVec.ofNat 32 ↑i) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 ↑i) 128#32) 0#32))
            (IntOp.subi (IntOp.divsi ArithUnit.vector (BitVec.ofNat 32 ↑i) 128#32) 1#32)
            (IntOp.divsi ArithUnit.vector (BitVec.ofNat 32 ↑i) 128#32)) = BitVec.ofNat 32 (i.val / 128) := by
  decide +kernel

/-- The lane mask: one where the row's remainder by 128 is the lane. -/
theorem lanes_apply (i : Fin 768) (l : Fin 128) :
    (lanes (F := Ideal)) (ix2 i l) = if i.val % 128 = l.val then 1 else 0 := by
  pointwise [lanes, k0_pay6, k0_pay2, k0_pay3, k0_pay4, k0_pay5]
  rw [column_word]
  exact indicator_word (by omega) (by omega)

/-- The row selector of the pack: one where the row's quotient by 128 is the packed row. -/
theorem rowsT_apply (j : Fin 6) (i : Fin 768) :
    (rowsT (F := Ideal)) (ix2 j i) = if i.val / 128 = j.val then 1 else 0 := by
  pointwise [rowsT, k0_pay7]
  rw [row_word]
  exact indicator_word (by omega) (by omega)

/-- The row selector of the unpack: the same, transposed. -/
theorem rows_apply (i : Fin 768) (j : Fin 6) :
    (rows (F := Ideal)) (ix2 i j) = if i.val / 128 = j.val then 1 else 0 := by
  pointwise [rows, k0_pay10, k0_pay8, k0_pay9]
  rw [row_word]
  exact indicator_word (by omega) (by omega)

/-- Selecting a packed row and masking a lane leaves the one row number they name. -/
theorem pack_sum (S : Fin 768 → EReal) (j : Fin 6) (l : Fin 128) :
    (∑ i : Fin 768, (if i.val / 128 = j.val then (1 : EReal) else 0) * (S i * (if i.val % 128 = l.val then 1 else 0)))
      = S ⟨j.val * 128 + l.val, by omega⟩ := by
  rw [Finset.sum_eq_single_of_mem (⟨j.val * 128 + l.val, by omega⟩ : Fin 768) (Finset.mem_univ _)]
  · rw [if_pos (by simp only; omega), if_pos (by simp only; omega), one_mul, mul_one]
  · intro i _ hi
    by_cases h : i.val / 128 = j.val
    · have h' : ¬ i.val % 128 = l.val := fun h' => hi (Fin.ext (by simp only; omega))
      rw [if_neg h', mul_zero, mul_zero]
    · rw [if_neg h, zero_mul]

/-- Reading a packed array through the two masks gives the entry of that row number. -/
theorem unpack_sum (T : Fin 6 → Fin 128 → EReal) (i : Fin 768) :
    (∑ l : Fin 128, (∑ j : Fin 6, (if i.val / 128 = j.val then (1 : EReal) else 0) * T j l) * (if i.val % 128 = l.val then 1 else 0))
      = T ⟨i.val / 128, by omega⟩ ⟨i.val % 128, by omega⟩ := by
  rw [Finset.sum_eq_single_of_mem (⟨i.val % 128, by omega⟩ : Fin 128) (Finset.mem_univ _)]
  · rw [if_pos rfl, mul_one, Finset.sum_eq_single_of_mem (⟨i.val / 128, by omega⟩ : Fin 6) (Finset.mem_univ _)]
    · rw [if_pos rfl, one_mul]
    · intro j _ hj
      rw [if_neg fun h => hj (Fin.ext h.symm), zero_mul]
  · intro l _ hl
    rw [if_neg fun h => hl (Fin.ext h.symm), mul_zero]

end Cert.KernelIdeal.Talk
-- ==== Proof.Stats.lean ====
/- The payloads of the kernel at an index: the packed statistics, what the slots hold, and the result in terms of the row sums. -/
module

public import proofs.«01_k».proof.Proof.Proto
public import proofs.«01_k».proof.Proof.Masks

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable (m : (ℓ : Loc nD τ sig) → Buf (Elt Ideal) ℓ)

/-- Device `c`'s block of `x` as an array of ideal values. -/
abbrev xv (c : Dev nD) : FVec Ideal S768x512 .bf16 := xb m c

/-- The sum of row `i` of device `c`'s block. -/
def rowSum (c : Dev nD) (i : Fin 768) : EReal := ∑ k : Fin 512, xv m c (ix2 i k)
/-- The sum of the squares of row `i` of device `c`'s block. -/
def rowSq (c : Dev nD) (i : Fin 768) : EReal :=
  ∑ k : Fin 512, xv m c (ix2 i k) * xv m c (ix2 i k)

/-- The first packed half at an index, over any masks. -/
theorem pay11_apply (x : FVec Ideal S768x512 .bf16) (a : FVec Ideal S768x128 .f32) (b : FVec Ideal S6x768 .f32) (j : Fin 6) (l : Fin 128) :
    k0_pay11 x a b (ix2 j l) = ∑ i : Fin 768, b (ix2 j i) * ((∑ k : Fin 512, x (ix2 i k)) * a (ix2 i l)) := by
  pointwise [k0_pay11]

/-- The second packed half at an index, over any masks. -/
theorem pay12_apply (x : FVec Ideal S768x512 .bf16) (a : FVec Ideal S768x128 .f32) (b : FVec Ideal S6x768 .f32) (j : Fin 6) (l : Fin 128) :
    k0_pay12 x a b (ix2 j l) = ∑ i : Fin 768, b (ix2 j i) * ((∑ k : Fin 512, x (ix2 i k) * x (ix2 i k)) * a (ix2 i l)) := by
  pointwise [k0_pay12]

/-- The sum of four packed arrays at an index. -/
def four (s : Vec Ideal S12x128 .f32) (s0 s1 s2 : Vec Ideal S1x12x128 .f32) (r : Fin 12) (l : Fin 128) : EReal :=
  s (ix2 r l) + s0 (ix3 0 r l) + s1 (ix3 0 r l) + s2 (ix3 0 r l)

/-- What the last step computes at an index from the mean and the mean square of a row. -/
def normed (mean sq gx g b : EReal) : EReal :=
  gx * Ideal.rsqrt (sq - mean * mean + Ideal.ofBits FTy.f32 0x3727C5AC#32)
    - g * (mean * Ideal.rsqrt (sq - mean * mean + Ideal.ofBits FTy.f32 0x3727C5AC#32)) + b

/-- The last step at an index, over any packed arrays: the masks pick back the row's entry of the total. -/
theorem pay16_apply (g b : FVec Ideal S1x512 .bf16)
    (s : Vec Ideal S12x128 .f32) (s0 s1 s2 : Vec Ideal S1x12x128 .f32) (gx : Vec Ideal S768x512 .f32) (i : Fin 768) (k : Fin 512) :
    k0_pay16 (lanes (F := Ideal)) rows g b s s0 s1 s2 gx (ix2 i k)
      = normed (four s s0 s1 s2 ⟨i.val / 128, by omega⟩ ⟨i.val % 128, by omega⟩ * Ideal.ofBits FTy.f32 0x3A000000#32)
          (four s s0 s1 s2 ⟨6 + i.val / 128, by omega⟩ ⟨i.val % 128, by omega⟩ * Ideal.ofBits FTy.f32 0x3A000000#32)
          (gx (ix2 i k)) (g (ix2 0 k)) (b (ix2 0 k)) := by
  have low := unpack_sum (fun j l => four s s0 s1 s2 ⟨j.val, by omega⟩ l) i
  have high := unpack_sum (fun j l => four s s0 s1 s2 ⟨6 + j.val, by omega⟩ l) i
  simp only [← lanes_apply, ← rows_apply, four] at low high
  pointwise [k0_pay16]
  rw [low, high]
  rfl

/-- Device `c`'s packed statistics: a row's sum in the first half. -/
theorem st_low (c : Dev nD) (i : Fin 768) :
    (st m c : Vec Ideal S12x128 .f32) (ix2 ⟨i.val / 128, by omega⟩ ⟨i.val % 128, by omega⟩) = rowSum m c i := by
  have h : i.val / 128 < 6 := by omega
  refine Eq.trans (dif_pos h) (Eq.trans (pay11_apply _ _ _ ⟨i.val / 128, h⟩ ⟨i.val % 128, by omega⟩) ?_)
  simp only [lanes_apply, rowsT_apply]
  refine (pack_sum (fun i => ∑ k : Fin 512, (k0_pay1 (xb m c) : FVec Ideal S768x512 .bf16) (ix2 i k)) ⟨i.val / 128, h⟩ ⟨i.val % 128, by omega⟩).trans ?_
  rw [show (⟨i.val / 128 * 128 + i.val % 128, by omega⟩ : Fin 768) = i from Fin.ext (by simp only; omega)]
  pointwise [k0_pay1, rowSum, xv]

/-- Device `c`'s packed statistics: a row's sum of squares in the second half. -/
theorem st_high (c : Dev nD) (i : Fin 768) :
    (st m c : Vec Ideal S12x128 .f32) (ix2 ⟨6 + i.val / 128, by omega⟩ ⟨i.val % 128, by omega⟩) = rowSq m c i := by
  have h : i.val / 128 < 6 := by omega
  have h' : ¬ 6 + i.val / 128 < 6 := by omega
  refine Eq.trans (dif_neg h') ?_
  have e : (⟨6 + i.val / 128 - 6, by omega⟩ : Fin 6) = ⟨i.val / 128, h⟩ := Fin.ext (by simp only; omega)
  refine Eq.trans (congrArg (fun j : Fin 6 => k0_pay12 (k0_pay1 (xb m c)) lanes rowsT (ix2 j (⟨i.val % 128, by omega⟩ : Fin 128))) e) ?_
  refine Eq.trans (pay12_apply _ _ _ ⟨i.val / 128, h⟩ ⟨i.val % 128, by omega⟩) ?_
  simp only [lanes_apply, rowsT_apply]
  refine (pack_sum (fun i => ∑ k : Fin 512, (k0_pay1 (xb m c) : FVec Ideal S768x512 .bf16) (ix2 i k) * (k0_pay1 (xb m c) : FVec Ideal S768x512 .bf16) (ix2 i k)) ⟨i.val / 128, h⟩ ⟨i.val % 128, by omega⟩).trans ?_
  rw [show (⟨i.val / 128 * 128 + i.val % 128, by omega⟩ : Fin 768) = i from Fin.ext (by simp only; omega)]
  pointwise [k0_pay1, rowSq, xv]

/-- Slot `k` as the body loads it: the statistics of the device that filled it. -/
theorem ld_apply (c : Dev nD) (k : Fin 3) (r : Fin 12) (l : Fin 128) :
    (ld m c k : Vec Ideal S1x12x128 .f32) (ix3 0 r l) = (st m (dn c k) : Vec Ideal S12x128 .f32) (ix2 r l) := by
  have e : ((slotR k).emb (ix3 0 r l : (slotR k).shape.Idx) : S3x12x128.Idx) = ix3 k r l := by
    funext a
    apply Fin.ext
    rw [Rect.emb_apply]
    fin_cases a
    · show k.val + 1 * 0 = k.val; omega
    · show 0 + 1 * r.val = r.val; omega
    · show 0 + 1 * l.val = l.val; omega
  show (cl m c) ((slotR k).emb (ix3 0 r l : (slotR k).shape.Idx) : S3x12x128.Idx) = _
  rw [e]
  rfl

/-- The scaled block at an index. -/
theorem gx_apply (c : Dev nD) (i : Fin 768) (k : Fin 512) :
    (gx m c : Vec Ideal S768x512 .f32) (ix2 i k) = (ga m c) (ix2 0 k) * xv m c (ix2 i k) := by
  pointwise [gx, k0_pay15, k0_pay1, xv]

/-- The total of a statistic over a device and the three that send to it. -/
def total (f : Dev nD → EReal) (c : Dev nD) : EReal := f c + f (dn c 0) + f (dn c 1) + f (dn c 2)

/-- That total is the sum over all four devices. -/
theorem total_eq (f : Dev nD → EReal) (c : Dev nD) : total f c = ∑ d : Dev nD, f d := by
  have h : ∀ c : Dev nD, (Finset.univ : Finset (Dev nD)) = {c, dn c 0, dn c 1, dn c 2} := by decide
  have h1 : ∀ c : Dev nD, c ∉ ({dn c 0, dn c 1, dn c 2} : Finset (Dev nD)) := by decide
  have h2 : ∀ c : Dev nD, dn c 0 ∉ ({dn c 1, dn c 2} : Finset (Dev nD)) := by decide
  have h3 : ∀ c : Dev nD, dn c 1 ∉ ({dn c 2} : Finset (Dev nD)) := by decide
  rw [h c, Finset.sum_insert (h1 c), Finset.sum_insert (h2 c), Finset.sum_insert (h3 c), Finset.sum_singleton, total]
  simp only [add_assoc]

/-- What the kernel leaves on device `c`, at an index. -/
theorem outAt_apply (c : Dev nD) (i : Fin 768) (k : Fin 512) :
    (outAt m c : Vec Ideal S768x512 .bf16) (ix2 i k)
      = normed ((∑ d : Dev nD, rowSum m d i) * Ideal.ofBits FTy.f32 0x3A000000#32)
          ((∑ d : Dev nD, rowSq m d i) * Ideal.ofBits FTy.f32 0x3A000000#32)
          ((ga m c) (ix2 0 k) * xv m c (ix2 i k)) ((ga m c) (ix2 0 k)) ((be m c) (ix2 0 k)) := by
  refine (pay16_apply _ _ _ _ _ _ _ i k).trans ?_
  simp only [four, ld_apply, st_low, st_high, gx_apply]
  rw [← total_eq (fun d => rowSum m d i) c, ← total_eq (fun d => rowSq m d i) c]
  rfl

end Cert.KernelIdeal.Talk
-- ==== Proof.Ends.lean ====
/- The arguments as the body finds them, and the result array after the run, at an index. -/
module

public import proofs.«01_k».proof.Proof.Stats
public import proofs.«01_k».proof.Proof.Body
public import Idealize.ShloMosaic.Lib.Pipeline.ValueKit.Geometry
public import Idealize.ShloMosaic.Lib.Claim

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Cert.KernelIdeal Cert.KernelIdeal.Gen

variable (m : (ℓ : Loc nD τ sig) → Buf (Elt Ideal) ℓ)

/-- A row of the stacked scale and offset at the region's entry. -/
theorem stacked_apply (c : Dev nD) (r : Fin 2) (l : Fin 512) :
    (V m c main_v3 : FVec Ideal S2x512 .bf16) (ix2 r l)
      = if r.val < 1 then (m ((c : Thread nD τ).loc main_arg1) : FVec Ideal S512 .bf16) (ix1 l)
        else (m ((c : Thread nD τ).loc main_arg2) : FVec Ideal S512 .bf16) (ix1 l) := by
  entry_read
  pointwise
  rfl

/-- The one block of `x` starts at the array's corner. -/
theorem win0 : ∀ t : Fin grid0.N, win0_0.index t = ![0, 0] := by decide +kernel
/-- The one block of the stacked rows starts at the array's corner. -/
theorem win1 : ∀ t : Fin grid0.N, win0_1.index t = ![0, 0] := by decide +kernel
/-- The one block of the result starts at the array's corner. -/
theorem win2 : ∀ t : Fin grid0.N, win0_2.index t = ![0, 0] := by decide +kernel

/-- Device `c`'s block of `x`, at an index, is its argument. -/
theorem xv_eq (c : Dev nD) (r : Fin 768) (l : Fin 512) :
    xv m c (ix2 r l) = (m ((c : Thread nD τ).loc main_arg0) : FVec Ideal S768x512 .bf16) (ix2 r l) := by
  refine Eq.trans (b := (V m c main_arg0 : FVec Ideal S768x512 .bf16) (ix2 r l)) ?_ (congrFun (V_main_arg0 m c) _)
  show (V m c main_arg0 : FVec Ideal S768x512 .bf16) ((win0_0.blk t0_0).view.emb (ix2 r l)) = _
  refine congrArg _ ?_
  blk_ext [win0]

/-- The stacked rows as the body finds them are the array at the region's entry. -/
theorem gb_eq (c : Dev nD) (r : Fin 2) (l : Fin 512) : (gb m c : FVec Ideal S2x512 .bf16) (ix2 r l) = (V m c main_v3 : FVec Ideal S2x512 .bf16) (ix2 r l) := by
  show (V m c main_v3 : FVec Ideal S2x512 .bf16) ((win0_1.blk t0_0).view.emb (ix2 r l)) = _
  refine congrArg _ ?_
  blk_ext [win1]

/-- The scale row as the body reads it. -/
theorem ga_eq (c : Dev nD) (l : Fin 512) : ga m c (ix2 0 l) = (m ((c : Thread nD τ).loc main_arg1) : FVec Ideal S512 .bf16) (ix1 l) := by
  refine Eq.trans (b := (gb m c : FVec Ideal S2x512 .bf16) (ix2 0 l)) ?_ ((gb_eq m c 0 l).trans ((stacked_apply m c 0 l).trans (if_pos (by decide))))
  pointwise [ga, k0_pay13]
  show (gb m c : FVec Ideal S2x512 .bf16) ((Rect.unit (s := S2x512) ![0, 0] ![1, 512] inb_S2x512_S1x512_0_0).emb (ix2 (0 : Fin 1) l)) = _
  refine congrArg _ (funext fun a => Fin.ext ?_)
  rw [Rect.emb_apply]
  fin_cases a
  · rfl
  · show 0 + 1 * l.val = l.val; omega

/-- The offset row as the body reads it. -/
theorem be_eq (c : Dev nD) (l : Fin 512) : be m c (ix2 0 l) = (m ((c : Thread nD τ).loc main_arg2) : FVec Ideal S512 .bf16) (ix1 l) := by
  refine Eq.trans (b := (gb m c : FVec Ideal S2x512 .bf16) (ix2 1 l)) ?_ ((gb_eq m c 1 l).trans ((stacked_apply m c 1 l).trans (if_neg (by decide))))
  pointwise [be, k0_pay14]
  show (gb m c : FVec Ideal S2x512 .bf16) ((Rect.unit (s := S2x512) ![1, 0] ![1, 512] inb_S2x512_S1x512_1_0).emb (ix2 (0 : Fin 1) l)) = _
  refine congrArg _ (funext fun a => Fin.ext ?_)
  rw [Rect.emb_apply]
  fin_cases a
  · rfl
  · show 0 + 1 * l.val = l.val; omega

/-- The kernel's result array on device `c` ends at the block the body leaves. -/
theorem final_out (c : Dev nD) : (dat m c).arrAt 2 cfg0.N = outAt m c := by
  refine (dat m c).arrAt_eq_of_covers 2 (outAt m c) (by decide +kernel) fun t hf y => ?_
  blk_simp
  refine congrArg (outAt m c) ?_
  blk_ext [win2]

/-- Device `c`'s argument `x`, as an array of ideal values. -/
abbrev argX (c : Dev nD) : FVec Ideal S768x512 .bf16 := m ((c : Thread nD τ).loc main_arg0)
/-- Device `c`'s scale argument. -/
abbrev argG (c : Dev nD) : FVec Ideal S512 .bf16 := m ((c : Thread nD τ).loc main_arg1)
/-- Device `c`'s offset argument. -/
abbrev argB (c : Dev nD) : FVec Ideal S512 .bf16 := m ((c : Thread nD τ).loc main_arg2)

/-- What the kernel leaves on device `c`, at an index, in terms of the arguments. -/
theorem out_apply (c : Dev nD) (i : Fin 768) (k : Fin 512) :
    ((dat m c).arrAt 2 cfg0.N : FVec Ideal S768x512 .bf16) (ix2 i k)
      = normed ((∑ d : Dev nD, ∑ l : Fin 512, argX m d (ix2 i l)) * Ideal.ofBits FTy.f32 0x3A000000#32)
          ((∑ d : Dev nD, ∑ l : Fin 512, argX m d (ix2 i l) * argX m d (ix2 i l)) * Ideal.ofBits FTy.f32 0x3A000000#32)
          (argG m c (ix1 k) * argX m c (ix2 i k)) (argG m c (ix1 k)) (argB m c (ix1 k)) := by
  refine (congrFun (final_out m c) (ix2 i k : S768x512.Idx)).trans ((outAt_apply m c i k).trans ?_)
  simp only [rowSum, rowSq, xv_eq, ga_eq, be_eq, argX, argG, argB]

end Cert.KernelIdeal.Talk
-- ==== Proof.Ref.lean ====
/- The reference's result as one array of its arguments, and that array at an index. -/
module

public import proofs.«01_k».proof.Proof.Gen.ReferenceIdeal.Run
public import Idealize.ShloMosaic.Lib.Pointwise

@[expose] public section

noncomputable section

namespace Cert.ReferenceIdeal.Talk

open Idealize.ShloMosaic Idealize.ShloMosaic.TcCoe Idealize.SL.Sem
open Cert.ReferenceIdeal Cert.ReferenceIdeal.Gen

/-- The mean of each row, kept as a column. -/
def mean (x : FVec Ideal S768x2048 .f32) : FVec Ideal S768x1 .f32 :=
  Host.divf (broadcastInDim S768x1 ![0] bcast_S768_S768x1_0 (Host.reduceAdd x (constant S_ .f32 0x00000000#32) reducesTo_S768x2048_S768_d1 h_S_))
    (broadcastInDim S768x1 ![] bcast_S_S768x1 (constant S_ .f32 0x45000000#32))
/-- Each entry less its row's mean. -/
def dev (x : FVec Ideal S768x2048 .f32) : FVec Ideal S768x2048 .f32 :=
  subf x (broadcastInDim S768x2048 ![0, 1] bcast_S768x1_S768x2048_0_1 (mean x))
/-- The count the variance divides by, as the reference computes it. -/
def count : FVec Ideal S_ .f32 := subf (constant S_ .f32 0x45000000#32) (sitofp .f32 (constantI S_ 32 0#32))
/-- The variance of each row, kept as a column. -/
def var (x : FVec Ideal S768x2048 .f32) : FVec Ideal S768x1 .f32 :=
  select (broadcastInDim S768x1 ![] bcast_S_S768x1 (cmpf .ogt count (constant S_ .f32 0x00000000#32)))
    (Host.divf (broadcastInDim S768x1 ![0] bcast_S768_S768x1_0
        (Host.reduceAdd (mulf (dev x) (dev x)) (constant S_ .f32 0x00000000#32) reducesTo_S768x2048_S768_d1 h_S_))
      (broadcastInDim S768x1 ![] bcast_S_S768x1 count))
    (broadcastInDim S768x1 ![] bcast_S_S768x1 (id (constant S_ .f32 0x7FC00000#32)))
/-- A parameter row laid over every row of the result. -/
def over (g : FVec Ideal S2048 .f32) : FVec Ideal S768x2048 .f32 :=
  broadcastInDim S768x2048 ![0, 1] bcast_S1x2048_S768x2048_0_1 (broadcastInDim S1x2048 ![1] bcast_S2048_S1x2048_1 g)
/-- The reference's result. -/
def out (x : FVec Ideal S768x2048 .bf16) (g b : FVec Ideal S2048 .bf16) : FVec Ideal S768x2048 .bf16 :=
  truncf .bf16 (addf (Host.divf (mulf (over (extf .f32 g bitsLt_bf16_f32)) (dev (extf .f32 x bitsLt_bf16_f32)))
      (broadcastInDim S768x2048 ![0, 1] bcast_S768x1_S768x2048_0_1 (Host.sqrt (addf (var (extf .f32 x bitsLt_bf16_f32))
        (broadcastInDim S768x1 ![] bcast_S_S768x1 (constant S_ .f32 0x3727C5AC#32))))))
    (over (extf .f32 b bitsLt_bf16_f32))) bitsLt_bf16_f32

variable (m : (ℓ : Loc nD τ sig) → Buf (Elt Ideal) ℓ) (ρ : Dev nD → PrngReg)

/-- The reference's run leaves that array and its arguments. -/
theorem run_out : θ_run defs (onTc (τ := τ) (main (F := Ideal))) ⟨m, fun _ => 0, ρ⟩ fun r => ∀ c : Dev nD,
    r.2.mem ((c : Thread nD τ).loc main_v21)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := Value.run m ρ

/-- The number of terms the variance divides by. -/
abbrev terms : EReal := Ideal.ofBits FTy.f32 0x45000000#32 - (FloatOps.sitofp FTy.f32 0#32 : Ideal .f32)
/-- One entry of the normalised row `X`: entry `x`, scale `g`, offset `b`. -/
def layer (X : Fin 2048 → EReal) (x g b : EReal) : EReal :=
  Ideal.div (g * (x - Ideal.div (∑ k, X k) (Ideal.ofBits FTy.f32 0x45000000#32)))
    (Ideal.sqrt ((if 0 < terms then
        Ideal.div (∑ k, (X k - Ideal.div (∑ k, X k) (Ideal.ofBits FTy.f32 0x45000000#32)) * (X k - Ideal.div (∑ k, X k) (Ideal.ofBits FTy.f32 0x45000000#32))) terms
      else Ideal.ofBits FTy.f32 0x7FC00000#32) + Ideal.ofBits FTy.f32 0x3727C5AC#32)) + b

/-- The reference's result at an index. -/
theorem out_apply (x : FVec Ideal S768x2048 .bf16) (g b : FVec Ideal S2048 .bf16) (i : Fin 768) (n : Fin 2048) :
    out x g b (ix2 i n) = layer (fun k => x (ix2 i k)) (x (ix2 i n)) (g (ix1 n)) (b (ix1 n)) := by
  pointwise [out, over, var, dev, mean, count]
  rfl

end Cert.ReferenceIdeal.Talk
-- ==== Proof.Algebra.lean ====
/- The two ways of normalising a row agree: from the row's sum and sum of squares, and from its deviations. -/
module

public import proofs.«01_k».proof.Proof.Stats
public import proofs.«01_k».proof.Proof.Ref

@[expose] public section

noncomputable section

namespace Cert.KernelIdeal.Talk

open Idealize.ShloMosaic

/-- A sum of reals, taken among the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The row length, as the programs spell it. -/
theorem length_word : Ideal.ofBits FTy.f32 0x45000000#32 = ((2048 : ℝ) : EReal) := by
  simp [Ideal.ofBits, Ideal.ieee, -EReal.coe_mul]; norm_num
/-- Its reciprocal. -/
theorem recip_word : Ideal.ofBits FTy.f32 0x3A000000#32 = (((1 : ℝ) / 2048 : ℝ) : EReal) := by
  simp [Ideal.ofBits, Ideal.ieee, -EReal.coe_mul]; norm_num
/-- The small number added to the variance. -/
abbrev eps : ℝ := 10995116 / 1099511627776
/-- The small number, as the programs spell it. -/
theorem eps_word : Ideal.ofBits FTy.f32 0x3727C5AC#32 = ((eps : ℝ) : EReal) := by
  simp [Ideal.ofBits, Ideal.ieee, -EReal.coe_mul, eps]; norm_num
/-- The reference's count of the variance's terms. -/
theorem terms_word : Cert.ReferenceIdeal.Talk.terms = ((2048 : ℝ) : EReal) := by
  unfold Cert.ReferenceIdeal.Talk.terms
  rw [length_word]
  show ((2048 : ℝ) : EReal) - (((0#32).toInt : ℝ) : EReal) = _
  simp

/-- The mean square less the squared mean is the mean of the squared deviations. -/
theorem variance_eq (X : Fin 2048 → ℝ) :
    (∑ n, X n * X n) * (1 / 2048) - (∑ n, X n) * (1 / 2048) * ((∑ n, X n) * (1 / 2048))
      = (∑ n, (X n - (∑ n, X n) * (1 / 2048)) * (X n - (∑ n, X n) * (1 / 2048))) * (1 / 2048) := by
  generalize hμ : (∑ n, X n) * (1 / 2048) = μ
  have hS : ∑ n, X n = 2048 * μ := by rw [← hμ]; ring
  have e : ∀ n, (X n - μ) * (X n - μ) = X n * X n - 2 * μ * X n + μ * μ := fun n => by ring
  simp only [e, Finset.sum_add_distrib, Finset.sum_sub_distrib, ← Finset.mul_sum, hS, Finset.sum_const, Finset.card_univ, Fintype.card_fin, nsmul_eq_mul]
  push_cast
  ring

/-- Normalising from the sum and the sum of squares is normalising from the deviations, for a row of reals and a real scale. -/
theorem normed_eq_layer (X : Fin 2048 → ℝ) (x g : ℝ) (b : EReal) :
    normed ((∑ n, (X n : EReal)) * Ideal.ofBits FTy.f32 0x3A000000#32) ((∑ n, (X n : EReal) * (X n : EReal)) * Ideal.ofBits FTy.f32 0x3A000000#32)
        ((g : EReal) * (x : EReal)) g b
      = Cert.ReferenceIdeal.Talk.layer (fun n => (X n : EReal)) x g b := by
  have hv := variance_eq X
  have hp : (0 : ℝ) < 2048 := by norm_num
  have hn : (2048 : ℝ) ≠ 0 := by norm_num
  unfold normed Cert.ReferenceIdeal.Talk.layer
  simp only [recip_word, eps_word, terms_word, length_word, if_pos (EReal.coe_pos.mpr hp), Ideal.div_coe hn]
  simp only [← EReal.coe_mul, ← EReal.coe_sub, sum_real, ← EReal.coe_add, hv]
  set μ : ℝ := (∑ n, X n) * (1 / 2048)
  set v : ℝ := (∑ n, (X n - μ) * (X n - μ)) * (1 / 2048)
  have h0 : 0 ≤ v := mul_nonneg (Finset.sum_nonneg fun n _ => mul_self_nonneg _) (by norm_num)
  have hw : 0 < v + eps := by have : 0 < eps := by unfold eps; norm_num
                              linarith
  rw [Ideal.rsqrt_coe, Ideal.sqrt_coe, if_neg (not_lt.mpr hw.le), if_neg hw.ne', if_neg (not_lt.mpr hw.le)]
  rw [Ideal.div_coe (Real.sqrt_pos.mpr hw).ne']
  simp only [← EReal.coe_mul, ← EReal.coe_sub]
  congr 2
  ring

end Cert.KernelIdeal.Talk
-- ==== Proof.Whole.lean ====
/- The kernel's blocks are the blocks of the reference's result. -/
module

public import proofs.«01_k».proof.Defs
public import proofs.«01_k».proof.Proof.Ends
public import proofs.«01_k».proof.Proof.Algebra
public import proofs.«01_k».proof.Proof.Start
public import Idealize.ShloMosaic.Lib.Layout

@[expose] public section

noncomputable section

namespace Cert.KernelIdeal.Talk

open Idealize.ShloMosaic Idealize.ShloMosaic.TcCoe Idealize.SL.Sem
open Cert.KernelIdeal Cert.KernelIdeal.Gen

/-- A sum over the whole row is the sum over the devices of the sums over their parts. -/
theorem sum_parts (f : Fin 2048 → EReal) : ∑ d : Fin 4, ∑ l : Fin 512, f ⟨d.val * 512 + l.val, by omega⟩ = ∑ n, f n :=
  (Fin.sum_univ_tiles 4 512 (by norm_num) f).symm

variable (X : FVec Ideal ⟨2, ![768, 2048]⟩ .bf16) (G B : FVec Ideal ⟨1, ![2048]⟩ .bf16)

/-- A device's block of an array cut by columns, at an index. -/
theorem cols_apply (c : Fin 4) (i : Fin 768) (k : Fin 512) :
    (Layout.block ⟨2, ![768, 512]⟩ ⟨2, ![768, 2048]⟩ 1 4 c X) (ix2 i k) = X (ix2 i (⟨c.val * 512 + k.val, by omega⟩ : Fin 2048)) := by
  rw [Layout.block_apply]
  refine congrArg X (funext fun a => Fin.ext ?_)
  fin_cases a
  · rfl
  · rfl

/-- A device's block of a row of parameters, at an index. -/
theorem row_apply (c : Fin 4) (k : Fin 512) :
    (Layout.block ⟨1, ![512]⟩ ⟨1, ![2048]⟩ 0 4 c G) (ix1 k) = G (ix1 (⟨c.val * 512 + k.val, by omega⟩ : Fin 2048)) := by
  rw [Layout.block_apply]
  refine congrArg G (funext fun a => Fin.ext ?_)
  fin_cases a
  rfl

/-- An entry whose absolute value is below infinity is a real. -/
theorem real_of_lt (x : EReal) (h : Ideal.cmp .olt (max x (-x)) (Ideal.ofBits .bf16 0x7F80#16) = 1#1) : ((x.toReal : ℝ) : EReal) = x := by
  have top : Ideal.ofBits .bf16 0x7F80#16 = ⊤ := by simp [Ideal.ofBits, Ideal.ieee]
  rw [top] at h
  have lt : max x (-x) < ⊤ := by
    by_contra hn
    simp [Ideal.cmp, hn] at h
  refine EReal.coe_toReal (fun e => ?_) (fun e => ?_)
  · subst e; simp at lt
  · subst e; simp at lt

variable (m : (ℓ : Loc nD τ sig) → Buf (Elt Ideal) ℓ)

/-- The kernel's result on device `c` is that device's block of the reference's, where `x` and the scale are real. -/
theorem final_eq (hx : ∀ c : Dev nD, argX m c = Layout.block ⟨2, ![768, 512]⟩ ⟨2, ![768, 2048]⟩ 1 4 c X)
    (hg : ∀ c, argG m c = Layout.block ⟨1, ![512]⟩ ⟨1, ![2048]⟩ 0 4 c G)
    (hb : ∀ c, argB m c = Layout.block ⟨1, ![512]⟩ ⟨1, ![2048]⟩ 0 4 c B)
    (rx : ∀ c i k, (((argX m c (ix2 i k) : EReal).toReal : ℝ) : EReal) = argX m c (ix2 i k))
    (rg : ∀ c k, (((argG m c (ix1 k) : EReal).toReal : ℝ) : EReal) = argG m c (ix1 k)) (c : Dev nD) :
    ((dat m c).arrAt 2 cfg0.N : FVec Ideal S768x512 .bf16)
      = Layout.block ⟨2, ![768, 512]⟩ ⟨2, ![768, 2048]⟩ 1 4 c (Cert.ReferenceIdeal.Talk.out X G B) := by
  funext z
  obtain ⟨i, k, rfl⟩ : ∃ (i : Fin 768) (k : Fin 512), z = ix2 i k := ⟨z 0, z 1, eq_ix2 z⟩
  have hc : c.val < 4 := c.isLt
  have rX : ∀ n : Fin 2048, (((X (ix2 i n) : EReal).toReal : ℝ) : EReal) = X (ix2 i n) := fun n => by
    have h := rx ⟨n.val / 512, by show n.val / 512 < 4; omega⟩ i ⟨n.val % 512, by omega⟩
    rw [hx, cols_apply] at h
    rwa [show (⟨n.val / 512 * 512 + n.val % 512, by omega⟩ : Fin 2048) = n from Fin.ext (by simp only; omega)] at h
  have rG := rg c k
  rw [hg, row_apply] at rG
  rw [out_apply, cols_apply, Cert.ReferenceIdeal.Talk.out_apply]
  simp only [hx, hg, hb, cols_apply, row_apply]
  rw [sum_parts fun n => X (ix2 i n), sum_parts fun n => X (ix2 i n) * X (ix2 i n)]
  have key := normed_eq_layer (fun n => (X (ix2 i n) : EReal).toReal) (X (ix2 i (⟨c.val * 512 + k.val, by omega⟩ : Fin 2048)) : EReal).toReal
    (G (ix1 (⟨c.val * 512 + k.val, by omega⟩ : Fin 2048)) : EReal).toReal (B (ix1 (⟨c.val * 512 + k.val, by omega⟩ : Fin 2048)))
  simp only [rX, rG] at key
  exact key

/-- What the precondition says: every entry of `x` and of the scale is a real. -/
theorem real_args [Cert.Pre_finite_KernelIdeal.Facts] (h : Cert.Pre_KernelIdeal_finite_KernelIdeal m) :
    (∀ c i k, (((argX m c (ix2 i k) : EReal).toReal : ℝ) : EReal) = argX m c (ix2 i k))
      ∧ (∀ c k, (((argG m c (ix1 k) : EReal).toReal : ℝ) : EReal) = argG m c (ix1 k)) :=
  ⟨fun c i k => real_of_lt _ (congrFun (h c).1 (ix2 i k)), fun c k => real_of_lt _ (congrFun (h c).2 (ix1 k))⟩

end Cert.KernelIdeal.Talk
-- ==== Proof.Agree.lean ====
/- The kernel and the reference, run from matching arguments, end at the same result. -/
module

public import proofs.«01_k».proof.Proof.Whole

@[expose] public section

noncomputable section

namespace Cert.Proof

open Idealize.ShloMosaic Idealize.ShloMosaic.TcCoe Idealize.SL.Sem

/-- The precondition's side conditions, for the kernel's shapes. -/
theorem finite_kernel : Cert.Pre_finite_KernelIdeal.Facts := by constructor <;> decide
/-- The same for the reference's shapes. -/
theorem finite_reference : Cert.Pre_finite_ReferenceIdeal.Facts := by constructor <;> decide

/-- Where `x` and the scale are finite, the kernel's blocks are the blocks of the reference's result. -/
theorem agree : Cert.algebraic_KernelIdeal_ReferenceIdeal_pre_finite_KernelIdeal (hKernelIdeal := Cert.KernelIdeal.Gen.facts)
    (hReferenceIdeal := Cert.ReferenceIdeal.Gen.facts) (hPre_finite_KernelIdeal := finite_kernel) := by
  intro m g m' g' pre h
  letI := finite_kernel
  obtain ⟨rx, rg⟩ := Cert.KernelIdeal.Talk.real_args m pre
  refine ⟨Cert.ReferenceIdeal.Talk.out (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2)), ?_, ?_⟩
  · refine (θ_run _ _ _).mono (fun r hr c => ?_) (Cert.KernelIdeal.Talk.run_main m g)
    obtain ⟨h0, h1, h2, h4⟩ := hr.1 c
    exact ⟨h4.trans (Cert.KernelIdeal.Talk.final_eq _ _ _ m (fun c => (h c).1) (fun c => (h c).2.1) (fun c => (h c).2.2) rx rg c), h0, h1, h2⟩
  · exact (θ_run _ _ _).mono (fun r hr => hr 0) (Cert.ReferenceIdeal.Talk.run_out m' g')

end Cert.Proof
-- ==== Proof.lean ====
/- The claims, assembled: the frames, that the ideal kernel is the kernel's own text, and that it computes the reference. -/
module

public import proofs.«01_k».proof.Defs
public import proofs.«01_k».proof.Proof.Frames
public import proofs.«01_k».proof.Proof.Agree

@[expose] public section

noncomputable section

namespace Cert.Proof

/-- Every claim of the certificate. -/
theorem claim : Cert.Claim := ⟨Cert.Kernel.Gen.facts, Cert.KernelIdeal.Gen.facts, Cert.ReferenceIdeal.Gen.facts, finite_kernel, finite_reference,
  frame_kernel, frame_ideal, fun m g _ => frame_ideal m g trivial, frame_reference, fun m g _ => frame_reference m g trivial, trivial, agree⟩

end Cert.Proof

end
